-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_GdnProj (m : (ℓ : Loc Cert.GdnProj.nD Cert.GdnProj.τ Cert.GdnProj.sig) → Buf (Elt Bits) ℓ) : Prop :=
  True

def Pre_GdnProjIdeal (m : (ℓ : Loc Cert.GdnProjIdeal.nD Cert.GdnProjIdeal.τ Cert.GdnProjIdeal.sig) → Buf (Elt Ideal) ℓ) : Prop :=
  True

def Pre_GdnProjRefIdeal (m : (ℓ : Loc Cert.GdnProjRefIdeal.nD Cert.GdnProjRefIdeal.τ Cert.GdnProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_GdnProj [hGdnProj : Cert.GdnProj.Facts] : Prop :=
  ∀ (m : (ℓ : Loc Cert.GdnProj.nD Cert.GdnProj.τ Cert.GdnProj.sig) → Buf (Elt Bits) ℓ) (g : Dev Cert.GdnProj.nD → PrngReg), Pre_GdnProj m →
    θ_run (Cert.GdnProj.defs (F := Bits)) (onTc (τ := Cert.GdnProj.τ) (Cert.GdnProj.main (F := Bits))) ⟨m, fun _ => 0, g⟩ (fun r => (∀ c : Dev Cert.GdnProj.nD,
      r.2.mem ((c.tc : Thread Cert.GdnProj.nD Cert.GdnProj.τ).loc Cert.GdnProj.main_arg0) = m ((c.tc : Thread Cert.GdnProj.nD Cert.GdnProj.τ).loc Cert.GdnProj.main_arg0)
      ∧ r.2.mem ((c.tc : Thread Cert.GdnProj.nD Cert.GdnProj.τ).loc Cert.GdnProj.main_arg1) = m ((c.tc : Thread Cert.GdnProj.nD Cert.GdnProj.τ).loc Cert.GdnProj.main_arg1)
      ∧ r.2.mem ((c.tc : Thread Cert.GdnProj.nD Cert.GdnProj.τ).loc Cert.GdnProj.main_arg2) = m ((c.tc : Thread Cert.GdnProj.nD Cert.GdnProj.τ).loc Cert.GdnProj.main_arg2))
      ∧ r.2.sem = fun _ => 0)

def quiescent_GdnProjIdeal [hGdnProjIdeal : Cert.GdnProjIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg), Pre_GdnProjIdeal m →
    θ_run (Cert.GdnProjIdeal.defs (F := Ideal)) (onTc (τ := Cert.GdnProjIdeal.τ) (Cert.GdnProjIdeal.main (F := Ideal))) ⟨m, fun _ => 0, g⟩ (fun r => (∀ c : Dev Cert.GdnProjIdeal.nD,
      r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
      ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
      ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2))
      ∧ r.2.sem = fun _ => 0)

def quiescent_GdnProjRefIdeal [hGdnProjRefIdeal : Cert.GdnProjRefIdeal.Facts] : Prop :=
  ∀ (m : (ℓ : Loc Cert.GdnProjRefIdeal.nD Cert.GdnProjRefIdeal.τ Cert.GdnProjRefIdeal.sig) → Buf (Elt Ideal) ℓ) (g : Dev Cert.GdnProjRefIdeal.nD → PrngReg), Pre_GdnProjRefIdeal m →
    θ_run (Cert.GdnProjRefIdeal.defs (F := Ideal)) (onTc (τ := Cert.GdnProjRefIdeal.τ) (Cert.GdnProjRefIdeal.main (F := Ideal))) ⟨m, fun _ => 0, g⟩ (fun r => (∀ c : Dev Cert.GdnProjRefIdeal.nD,
      r.2.mem ((c.tc : Thread Cert.GdnProjRefIdeal.nD Cert.GdnProjRefIdeal.τ).loc Cert.GdnProjRefIdeal.main_arg0) = m ((c.tc : Thread Cert.GdnProjRefIdeal.nD Cert.GdnProjRefIdeal.τ).loc Cert.GdnProjRefIdeal.main_arg0)
      ∧ r.2.mem ((c.tc : Thread Cert.GdnProjRefIdeal.nD Cert.GdnProjRefIdeal.τ).loc Cert.GdnProjRefIdeal.main_arg1) = m ((c.tc : Thread Cert.GdnProjRefIdeal.nD Cert.GdnProjRefIdeal.τ).loc Cert.GdnProjRefIdeal.main_arg1)
      ∧ r.2.mem ((c.tc : Thread Cert.GdnProjRefIdeal.nD Cert.GdnProjRefIdeal.τ).loc Cert.GdnProjRefIdeal.main_arg2) = m ((c.tc : Thread Cert.GdnProjRefIdeal.nD Cert.GdnProjRefIdeal.τ).loc Cert.GdnProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2)
      ∧ r.2.mem ((c.tc : Thread Cert.AttnProj.nD Cert.AttnProj.τ).loc Cert.AttnProj.main_arg3) = m ((c.tc : Thread Cert.AttnProj.nD Cert.AttnProj.τ).loc Cert.AttnProj.main_arg3)
      ∧ r.2.mem ((c.tc : Thread Cert.AttnProj.nD Cert.AttnProj.τ).loc Cert.AttnProj.main_arg4) = m ((c.tc : Thread Cert.AttnProj.nD Cert.AttnProj.τ).loc Cert.AttnProj.main_arg4)
      ∧ r.2.mem ((c.tc : Thread Cert.AttnProj.nD Cert.AttnProj.τ).loc Cert.AttnProj.main_arg5) = m ((c.tc : Thread Cert.AttnProj.nD Cert.AttnProj.τ).loc Cert.AttnProj.main_arg5)
      ∧ r.2.mem ((c.tc : Thread Cert.AttnProj.nD Cert.AttnProj.τ).loc Cert.AttnProj.main_arg6) = m ((c.tc : Thread Cert.AttnProj.nD Cert.AttnProj.τ).loc Cert.AttnProj.main_arg6)
      ∧ r.2.mem ((c.tc : Thread Cert.AttnProj.nD Cert.AttnProj.τ).loc Cert.AttnProj.main_arg7) = m ((c.tc : Thread Cert.AttnProj.nD Cert.AttnProj.τ).loc Cert.AttnProj.main_arg7)
      ∧ r.2.mem ((c.tc : Thread Cert.AttnProj.nD Cert.AttnProj.τ).loc Cert.AttnProj.main_arg8) = m ((c.tc : Thread Cert.AttnProj.nD Cert.AttnProj.τ).loc Cert.AttnProj.main_arg8))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
      ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
      ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4)
      ∧ r.2.mem ((c.tc : Thread Cert.AttnProjIdeal.nD Cert.AttnProjIdeal.τ).loc Cert.AttnProjIdeal.main_arg5) = m ((c.tc : Thread Cert.AttnProjIdeal.nD Cert.AttnProjIdeal.τ).loc Cert.AttnProjIdeal.main_arg5)
      ∧ r.2.mem ((c.tc : Thread Cert.AttnProjIdeal.nD Cert.AttnProjIdeal.τ).loc Cert.AttnProjIdeal.main_arg6) = m ((c.tc : Thread Cert.AttnProjIdeal.nD Cert.AttnProjIdeal.τ).loc Cert.AttnProjIdeal.main_arg6)
      ∧ r.2.mem ((c.tc : Thread Cert.AttnProjIdeal.nD Cert.AttnProjIdeal.τ).loc Cert.AttnProjIdeal.main_arg7) = m ((c.tc : Thread Cert.AttnProjIdeal.nD Cert.AttnProjIdeal.τ).loc Cert.AttnProjIdeal.main_arg7)
      ∧ r.2.mem ((c.tc : Thread Cert.AttnProjIdeal.nD Cert.AttnProjIdeal.τ).loc Cert.AttnProjIdeal.main_arg8) = m ((c.tc : Thread Cert.AttnProjIdeal.nD Cert.AttnProjIdeal.τ).loc Cert.AttnProjIdeal.main_arg8))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1)
      ∧ r.2.mem ((c.tc : Thread Cert.AttnProjRefIdeal.nD Cert.AttnProjRefIdeal.τ).loc Cert.AttnProjRefIdeal.main_arg2) = m ((c.tc : Thread Cert.AttnProjRefIdeal.nD Cert.AttnProjRefIdeal.τ).loc Cert.AttnProjRefIdeal.main_arg2)
      ∧ r.2.mem ((c.tc : Thread Cert.AttnProjRefIdeal.nD Cert.AttnProjRefIdeal.τ).loc Cert.AttnProjRefIdeal.main_arg3) = m ((c.tc : Thread Cert.AttnProjRefIdeal.nD Cert.AttnProjRefIdeal.τ).loc Cert.AttnProjRefIdeal.main_arg3)
      ∧ r.2.mem ((c.tc : Thread Cert.AttnProjRefIdeal.nD Cert.AttnProjRefIdeal.τ).loc Cert.AttnProjRefIdeal.main_arg4) = m ((c.tc : Thread Cert.AttnProjRefIdeal.nD Cert.AttnProjRefIdeal.τ).loc Cert.AttnProjRefIdeal.main_arg4)
      ∧ r.2.mem ((c.tc : Thread Cert.AttnProjRefIdeal.nD Cert.AttnProjRefIdeal.τ).loc Cert.AttnProjRefIdeal.main_arg5) = m ((c.tc : Thread Cert.AttnProjRefIdeal.nD Cert.AttnProjRefIdeal.τ).loc Cert.AttnProjRefIdeal.main_arg5)
      ∧ r.2.mem ((c.tc : Thread Cert.AttnProjRefIdeal.nD Cert.AttnProjRefIdeal.τ).loc Cert.AttnProjRefIdeal.main_arg6) = m ((c.tc : Thread Cert.AttnProjRefIdeal.nD Cert.AttnProjRefIdeal.τ).loc Cert.AttnProjRefIdeal.main_arg6)
      ∧ r.2.mem ((c.tc : Thread Cert.AttnProjRefIdeal.nD Cert.AttnProjRefIdeal.τ).loc Cert.AttnProjRefIdeal.main_arg7) = m ((c.tc : Thread Cert.AttnProjRefIdeal.nD Cert.AttnProjRefIdeal.τ).loc Cert.AttnProjRefIdeal.main_arg7)
      ∧ r.2.mem ((c.tc : Thread Cert.AttnProjRefIdeal.nD Cert.AttnProjRefIdeal.τ).loc Cert.AttnProjRefIdeal.main_arg8) = m ((c.tc : Thread Cert.AttnProjRefIdeal.nD Cert.AttnProjRefIdeal.τ).loc Cert.AttnProjRefIdeal.main_arg8))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v9)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v9) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v24) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v9)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v9) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v37) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_GdnProj_GdnProjIdeal : Prop :=
  True

def algebraic_GdnProjIdeal_GdnProjRefIdeal [hGdnProjIdeal : Cert.GdnProjIdeal.Facts] [hGdnProjRefIdeal : Cert.GdnProjRefIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg)
    (m' : (ℓ : Loc Cert.GdnProjRefIdeal.nD Cert.GdnProjRefIdeal.τ Cert.GdnProjRefIdeal.sig) → Buf (Elt Ideal) ℓ) (g' : Dev Cert.GdnProjRefIdeal.nD → PrngReg), Pre_GdnProjIdeal m →
    (∀ c : Dev Cert.GdnProjIdeal.nD,
      m' ((c.tc : Thread Cert.GdnProjRefIdeal.nD Cert.GdnProjRefIdeal.τ).loc Cert.GdnProjRefIdeal.main_arg0) = m ((c.tc : Thread Cert.GdnProjIdeal.nD Cert.GdnProjIdeal.τ).loc Cert.GdnProjIdeal.main_arg0)
      ∧ m' ((c.tc : Thread Cert.GdnProjRefIdeal.nD Cert.GdnProjRefIdeal.τ).loc Cert.GdnProjRefIdeal.main_arg1) = m ((c.tc : Thread Cert.GdnProjIdeal.nD Cert.GdnProjIdeal.τ).loc Cert.GdnProjIdeal.main_arg1)
      ∧ m' ((c.tc : Thread Cert.GdnProjRefIdeal.nD Cert.GdnProjRefIdeal.τ).loc Cert.GdnProjRefIdeal.main_arg2) = m ((c.tc : Thread Cert.GdnProjIdeal.nD Cert.GdnProjIdeal.τ).loc Cert.GdnProjIdeal.main_arg2)) →
    ∃ (v0 : (c : Dev Cert.GdnProjIdeal.nD) → Buf (Elt Ideal) ((c.tc : Thread Cert.GdnProjIdeal.nD Cert.GdnProjIdeal.τ).loc Cert.GdnProjIdeal.main_v4)),
      θ_run (Cert.GdnProjIdeal.defs (F := Ideal)) (onTc (τ := Cert.GdnProjIdeal.τ) (Cert.GdnProjIdeal.main (F := Ideal))) ⟨m, fun _ => 0, g⟩ (fun r => ∀ c : Dev Cert.GdnProjIdeal.nD,
          r.2.mem ((c.tc : Thread Cert.GdnProjIdeal.nD Cert.GdnProjIdeal.τ).loc Cert.GdnProjIdeal.main_v4) = v0 c
          ∧ r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
          ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
          ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2))
      ∧ θ_run (Cert.GdnProjRefIdeal.defs (F := Ideal)) (onTc (τ := Cert.GdnProjRefIdeal.τ) (Cert.GdnProjRefIdeal.main (F := Ideal))) ⟨m', fun _ => 0, g'⟩ (fun r => ∀ c : Dev Cert.GdnProjRefIdeal.nD,
          r.2.mem ((c.tc : Thread Cert.GdnProjRefIdeal.nD Cert.GdnProjRefIdeal.τ).loc Cert.GdnProjRefIdeal.main_v16) = v0 c
          ∧ r.2.mem ((c.tc : Thread Cert.GdnProjRefIdeal.nD Cert.GdnProjRefIdeal.τ).loc Cert.GdnProjRefIdeal.main_arg0) = m' ((c.tc : Thread Cert.GdnProjRefIdeal.nD Cert.GdnProjRefIdeal.τ).loc Cert.GdnProjRefIdeal.main_arg0)
          ∧ r.2.mem ((c.tc : Thread Cert.GdnProjRefIdeal.nD Cert.GdnProjRefIdeal.τ).loc Cert.GdnProjRefIdeal.main_arg1) = m' ((c.tc : Thread Cert.GdnProjRefIdeal.nD Cert.GdnProjRefIdeal.τ).loc Cert.GdnProjRefIdeal.main_arg1)
          ∧ r.2.mem ((c.tc : Thread Cert.GdnProjRefIdeal.nD Cert.GdnProjRefIdeal.τ).loc Cert.GdnProjRefIdeal.main_arg2) = m' ((c.tc : Thread Cert.GdnProjRefIdeal.nD Cert.GdnProjRefIdeal.τ).loc Cert.GdnProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v29) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)
      ∧ m' ((c.tc : Thread Cert.AttnProjRefIdeal.nD Cert.AttnProjRefIdeal.τ).loc Cert.AttnProjRefIdeal.main_arg2) = m ((c.tc : Thread Cert.AttnProjIdeal.nD Cert.AttnProjIdeal.τ).loc Cert.AttnProjIdeal.main_arg2)
      ∧ m' ((c.tc : Thread Cert.AttnProjRefIdeal.nD Cert.AttnProjRefIdeal.τ).loc Cert.AttnProjRefIdeal.main_arg3) = m ((c.tc : Thread Cert.AttnProjIdeal.nD Cert.AttnProjIdeal.τ).loc Cert.AttnProjIdeal.main_arg3)
      ∧ m' ((c.tc : Thread Cert.AttnProjRefIdeal.nD Cert.AttnProjRefIdeal.τ).loc Cert.AttnProjRefIdeal.main_arg4) = m ((c.tc : Thread Cert.AttnProjIdeal.nD Cert.AttnProjIdeal.τ).loc Cert.AttnProjIdeal.main_arg4)
      ∧ m' ((c.tc : Thread Cert.AttnProjRefIdeal.nD Cert.AttnProjRefIdeal.τ).loc Cert.AttnProjRefIdeal.main_arg5) = m ((c.tc : Thread Cert.AttnProjIdeal.nD Cert.AttnProjIdeal.τ).loc Cert.AttnProjIdeal.main_arg5)
      ∧ m' ((c.tc : Thread Cert.AttnProjRefIdeal.nD Cert.AttnProjRefIdeal.τ).loc Cert.AttnProjRefIdeal.main_arg6) = m ((c.tc : Thread Cert.AttnProjIdeal.nD Cert.AttnProjIdeal.τ).loc Cert.AttnProjIdeal.main_arg6)
      ∧ m' ((c.tc : Thread Cert.AttnProjRefIdeal.nD Cert.AttnProjRefIdeal.τ).loc Cert.AttnProjRefIdeal.main_arg7) = m ((c.tc : Thread Cert.AttnProjIdeal.nD Cert.AttnProjIdeal.τ).loc Cert.AttnProjIdeal.main_arg7)
      ∧ m' ((c.tc : Thread Cert.AttnProjRefIdeal.nD Cert.AttnProjRefIdeal.τ).loc Cert.AttnProjRefIdeal.main_arg8) = m ((c.tc : Thread Cert.AttnProjIdeal.nD Cert.AttnProjIdeal.τ).loc Cert.AttnProjIdeal.main_arg8)) →
    ∃ (v0 : (c : Dev Cert.AttnProjIdeal.nD) → Buf (Elt Ideal) ((c.tc : Thread Cert.AttnProjIdeal.nD Cert.AttnProjIdeal.τ).loc Cert.AttnProjIdeal.main_v59_0)) (v1 : (c : Dev Cert.AttnProjIdeal.nD) → Buf (Elt Ideal) ((c.tc : Thread Cert.AttnProjIdeal.nD Cert.AttnProjIdeal.τ).loc Cert.AttnProjIdeal.main_v59_1)) (v2 : (c : Dev Cert.AttnProjIdeal.nD) → Buf (Elt Ideal) ((c.tc : Thread Cert.AttnProjIdeal.nD Cert.AttnProjIdeal.τ).loc Cert.AttnProjIdeal.main_v59_2)) (v3 : (c : Dev Cert.AttnProjIdeal.nD) → Buf (Elt Ideal) ((c.tc : Thread Cert.AttnProjIdeal.nD Cert.AttnProjIdeal.τ).loc Cert.AttnProjIdeal.main_v59_3)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v59_0) = v0 c
          ∧ r.2.mem ((c.tc : Thread Cert.AttnProjIdeal.nD Cert.AttnProjIdeal.τ).loc Cert.AttnProjIdeal.main_v59_1) = v1 c
          ∧ r.2.mem ((c.tc : Thread Cert.AttnProjIdeal.nD Cert.AttnProjIdeal.τ).loc Cert.AttnProjIdeal.main_v59_2) = v2 c
          ∧ r.2.mem ((c.tc : Thread Cert.AttnProjIdeal.nD Cert.AttnProjIdeal.τ).loc Cert.AttnProjIdeal.main_v59_3) = v3 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
          ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
          ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4)
          ∧ r.2.mem ((c.tc : Thread Cert.AttnProjIdeal.nD Cert.AttnProjIdeal.τ).loc Cert.AttnProjIdeal.main_arg5) = m ((c.tc : Thread Cert.AttnProjIdeal.nD Cert.AttnProjIdeal.τ).loc Cert.AttnProjIdeal.main_arg5)
          ∧ r.2.mem ((c.tc : Thread Cert.AttnProjIdeal.nD Cert.AttnProjIdeal.τ).loc Cert.AttnProjIdeal.main_arg6) = m ((c.tc : Thread Cert.AttnProjIdeal.nD Cert.AttnProjIdeal.τ).loc Cert.AttnProjIdeal.main_arg6)
          ∧ r.2.mem ((c.tc : Thread Cert.AttnProjIdeal.nD Cert.AttnProjIdeal.τ).loc Cert.AttnProjIdeal.main_arg7) = m ((c.tc : Thread Cert.AttnProjIdeal.nD Cert.AttnProjIdeal.τ).loc Cert.AttnProjIdeal.main_arg7)
          ∧ r.2.mem ((c.tc : Thread Cert.AttnProjIdeal.nD Cert.AttnProjIdeal.τ).loc Cert.AttnProjIdeal.main_arg8) = m ((c.tc : Thread Cert.AttnProjIdeal.nD Cert.AttnProjIdeal.τ).loc Cert.AttnProjIdeal.main_arg8))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v221) = v0 c
          ∧ r.2.mem ((c.tc : Thread Cert.AttnProjRefIdeal.nD Cert.AttnProjRefIdeal.τ).loc Cert.AttnProjRefIdeal.main_v222) = v1 c
          ∧ r.2.mem ((c.tc : Thread Cert.AttnProjRefIdeal.nD Cert.AttnProjRefIdeal.τ).loc Cert.AttnProjRefIdeal.main_v223) = v2 c
          ∧ r.2.mem ((c.tc : Thread Cert.AttnProjRefIdeal.nD Cert.AttnProjRefIdeal.τ).loc Cert.AttnProjRefIdeal.main_v220) = v3 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1)
          ∧ r.2.mem ((c.tc : Thread Cert.AttnProjRefIdeal.nD Cert.AttnProjRefIdeal.τ).loc Cert.AttnProjRefIdeal.main_arg2) = m' ((c.tc : Thread Cert.AttnProjRefIdeal.nD Cert.AttnProjRefIdeal.τ).loc Cert.AttnProjRefIdeal.main_arg2)
          ∧ r.2.mem ((c.tc : Thread Cert.AttnProjRefIdeal.nD Cert.AttnProjRefIdeal.τ).loc Cert.AttnProjRefIdeal.main_arg3) = m' ((c.tc : Thread Cert.AttnProjRefIdeal.nD Cert.AttnProjRefIdeal.τ).loc Cert.AttnProjRefIdeal.main_arg3)
          ∧ r.2.mem ((c.tc : Thread Cert.AttnProjRefIdeal.nD Cert.AttnProjRefIdeal.τ).loc Cert.AttnProjRefIdeal.main_arg4) = m' ((c.tc : Thread Cert.AttnProjRefIdeal.nD Cert.AttnProjRefIdeal.τ).loc Cert.AttnProjRefIdeal.main_arg4)
          ∧ r.2.mem ((c.tc : Thread Cert.AttnProjRefIdeal.nD Cert.AttnProjRefIdeal.τ).loc Cert.AttnProjRefIdeal.main_arg5) = m' ((c.tc : Thread Cert.AttnProjRefIdeal.nD Cert.AttnProjRefIdeal.τ).loc Cert.AttnProjRefIdeal.main_arg5)
          ∧ r.2.mem ((c.tc : Thread Cert.AttnProjRefIdeal.nD Cert.AttnProjRefIdeal.τ).loc Cert.AttnProjRefIdeal.main_arg6) = m' ((c.tc : Thread Cert.AttnProjRefIdeal.nD Cert.AttnProjRefIdeal.τ).loc Cert.AttnProjRefIdeal.main_arg6)
          ∧ r.2.mem ((c.tc : Thread Cert.AttnProjRefIdeal.nD Cert.AttnProjRefIdeal.τ).loc Cert.AttnProjRefIdeal.main_arg7) = m' ((c.tc : Thread Cert.AttnProjRefIdeal.nD Cert.AttnProjRefIdeal.τ).loc Cert.AttnProjRefIdeal.main_arg7)
          ∧ r.2.mem ((c.tc : Thread Cert.AttnProjRefIdeal.nD Cert.AttnProjRefIdeal.τ).loc Cert.AttnProjRefIdeal.main_arg8) = m' ((c.tc : Thread Cert.AttnProjRefIdeal.nD Cert.AttnProjRefIdeal.τ).loc Cert.AttnProjRefIdeal.main_arg8))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v61) = v0 c
          ∧ r.2.mem ((c.tc : Thread Cert.ConvRefIdeal.nD Cert.ConvRefIdeal.τ).loc Cert.ConvRefIdeal.main_v62) = v1 c
          ∧ r.2.mem ((c.tc : Thread Cert.ConvRefIdeal.nD Cert.ConvRefIdeal.τ).loc Cert.ConvRefIdeal.main_v63) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def Claim : Prop :=
  ∃ (hAttn : Cert.Attn.Facts) (hAttnIdeal : Cert.AttnIdeal.Facts) (hAttnRefIdeal : Cert.AttnRefIdeal.Facts) (hFfnFirst : Cert.FfnFirst.Facts) (hFfnFirstIdeal : Cert.FfnFirstIdeal.Facts) (hFfnFirstRefIdeal : Cert.FfnFirstRefIdeal.Facts) (hFfnLast : Cert.FfnLast.Facts) (hFfnLastIdeal : Cert.FfnLastIdeal.Facts) (hFfnLastRefIdeal : Cert.FfnLastRefIdeal.Facts) (hGdnProj : Cert.GdnProj.Facts) (hGdnProjIdeal : Cert.GdnProjIdeal.Facts) (hGdnProjRefIdeal : Cert.GdnProjRefIdeal.Facts) (hOutProj : Cert.OutProj.Facts) (hOutProjIdeal : Cert.OutProjIdeal.Facts) (hOutProjRefIdeal : Cert.OutProjRefIdeal.Facts) (hAttnProj : Cert.AttnProj.Facts) (hAttnProjIdeal : Cert.AttnProjIdeal.Facts) (hAttnProjRefIdeal : Cert.AttnProjRefIdeal.Facts) (hConv : Cert.Conv.Facts) (hConvIdeal : Cert.ConvIdeal.Facts) (hConvRefIdeal : Cert.ConvRefIdeal.Facts),
    quiescent_Attn (hAttn := hAttn)
    ∧ quiescent_AttnIdeal (hAttnIdeal := hAttnIdeal)
    ∧ quiescent_AttnRefIdeal (hAttnRefIdeal := hAttnRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_GdnProj (hGdnProj := hGdnProj)
    ∧ quiescent_GdnProjIdeal (hGdnProjIdeal := hGdnProjIdeal)
    ∧ quiescent_GdnProjRefIdeal (hGdnProjRefIdeal := hGdnProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_Conv (hConv := hConv)
    ∧ quiescent_ConvIdeal (hConvIdeal := hConvIdeal)
    ∧ quiescent_ConvRefIdeal (hConvRefIdeal := hConvRefIdeal)
    ∧ preserves_Attn_AttnIdeal
    ∧ algebraic_AttnIdeal_AttnRefIdeal (hAttnIdeal := hAttnIdeal) (hAttnRefIdeal := hAttnRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_FfnLast_FfnLastIdeal
    ∧ algebraic_FfnLastIdeal_FfnLastRefIdeal (hFfnLastIdeal := hFfnLastIdeal) (hFfnLastRefIdeal := hFfnLastRefIdeal)
    ∧ preserves_GdnProj_GdnProjIdeal
    ∧ algebraic_GdnProjIdeal_GdnProjRefIdeal (hGdnProjIdeal := hGdnProjIdeal) (hGdnProjRefIdeal := hGdnProjRefIdeal)
    ∧ preserves_OutProj_OutProjIdeal
    ∧ algebraic_OutProjIdeal_OutProjRefIdeal (hOutProjIdeal := hOutProjIdeal) (hOutProjRefIdeal := hOutProjRefIdeal)
    ∧ preserves_AttnProj_AttnProjIdeal
    ∧ algebraic_AttnProjIdeal_AttnProjRefIdeal (hAttnProjIdeal := hAttnProjIdeal) (hAttnProjRefIdeal := hAttnProjRefIdeal)
    ∧ preserves_Conv_ConvIdeal
    ∧ algebraic_ConvIdeal_ConvRefIdeal (hConvIdeal := hConvIdeal) (hConvRefIdeal := hConvRefIdeal)
-- ==== Attn.lean ====
abbrev S16384x1024 : Shape := ⟨2, ![16384, 1024]⟩
abbrev S16384x256 : Shape := ⟨2, ![16384, 256]⟩
abbrev S1x128 : Shape := ⟨2, ![1, 128]⟩
abbrev S512x512 : Shape := ⟨2, ![512, 512]⟩
abbrev S512x128 : Shape := ⟨2, ![512, 128]⟩
abbrev S4x512x128 : Shape := ⟨3, ![4, 512, 128]⟩
abbrev S1x512x128 : Shape := ⟨3, ![1, 512, 128]⟩
abbrev S512x1 : Shape := ⟨2, ![512, 1]⟩
abbrev S512 : Shape := ⟨1, ![512]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S1x128, .f32⟩
  | .hbm, ⟨4, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 32, 32], ![false, false, false]⟩

def k0_cond2 (i : grid0.Coords) : BitVec 1 :=
  let arg2 : BitVec 32 := BitVec.ofNat 32 (i 2).val
  let c31_i32 : BitVec 32 := 31#32
  let v173 : BitVec 1 := Scalar.cmpi .eq arg2 c31_i32
  let v174 : BitVec 32 := Scalar.extui v173
  let c0_i32_97 : BitVec 32 := 0#32
  let v175 : BitVec 1 := Scalar.cmpi .ne v174 c0_i32_97
  v175

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnRefIdeal.lean ====
abbrev S16384x1024 : Shape := ⟨2, ![16384, 1024]⟩
abbrev S16384x256 : Shape := ⟨2, ![16384, 256]⟩
abbrev S1x128 : Shape := ⟨2, ![1, 128]⟩
abbrev S16384x2x4x128 : Shape := ⟨4, ![16384, 2, 4, 128]⟩
abbrev S16384x2x128 : Shape := ⟨3, ![16384, 2, 128]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x128x4x16384 : Shape := ⟨4, ![2, 128, 4, 16384]⟩
abbrev S128 : Shape := ⟨1, ![128]⟩
abbrev S16384x2x4 : Shape := ⟨3, ![16384, 2, 4]⟩
abbrev S16384x2x4x1 : Shape := ⟨4, ![16384, 2, 4, 1]⟩
abbrev S1x1x1x128 : Shape := ⟨4, ![1, 1, 1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S1x128, .f32⟩
  | .hbm, ⟨4, _⟩ => ⟨S16384x1024, .f32⟩
  | .hbm, ⟨5, _⟩ => ⟨S16384x2x4x128, .f32⟩
  | .hbm, ⟨6, _⟩ => ⟨S16384x256, .f32⟩
  | .hbm, ⟨7, _⟩ => ⟨S16384x2x128, .f32⟩
  | .hbm, ⟨8, _⟩ => ⟨S16384x256, .f32⟩
  | .hbm, ⟨9, _⟩ => ⟨S16384x2x128, .f32⟩
  | .hbm, ⟨10, _⟩ => ⟨S2x16384x16384x4, .f32⟩
  | .hbm, ⟨11, _⟩ => ⟨S2x4x16384x16384, .f32⟩
  | .hbm, ⟨12, _⟩ => ⟨S_, .f32⟩
  | .hbm, ⟨13, _⟩ => ⟨S2x4x16384x16384, .f32⟩
  | .hbm, ⟨14, _⟩ => ⟨S2x4x16384x16384, .f32⟩
  | .hbm, ⟨15, _⟩ => ⟨S_, .f32⟩
  | .hbm, ⟨16, _⟩ => ⟨S2x4x16384, .f32⟩
  | .hbm, ⟨17, _⟩ => ⟨S_, .f32⟩
  | .hbm, ⟨18, _⟩ => ⟨S2x4x16384, .f32⟩
  | .hbm, ⟨19, _⟩ => ⟨S2x4x16384, .f32⟩
  | .hbm, ⟨20, _⟩ => ⟨S2x4x16384x1, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .f32⟩
  | .hbm, ⟨24, _⟩ => ⟨S_, .f32⟩
  | .hbm, ⟨25, _⟩ => ⟨S2x4x16384, .f32⟩
  | .hbm, ⟨26, _⟩ => ⟨S2x4x16384x1, .f32⟩
  | .hbm, ⟨27, _⟩ => ⟨S2x4x16384x16384, .f32⟩
  | .hbm, ⟨28, _⟩ => ⟨S2x4x16384x16384, .f32⟩
  | .hbm, ⟨29, _⟩ => ⟨S2x128x4x16384, .f32⟩
  | .hbm, ⟨30, _⟩ => ⟨S16384x2x4x128, .f32⟩
  | .hbm, ⟨31, _⟩ => ⟨S128, .f32⟩
  | .hbm, ⟨32, _⟩ => ⟨S16384x2x4x128, .f32⟩
  | .hbm, ⟨33, _⟩ => ⟨S_, .f32⟩
  | .hbm, ⟨34, _⟩ => ⟨S16384x2x4, .f32⟩
  | .hbm, ⟨35, _⟩ => ⟨S16384x2x4x1, .f32⟩
  | .hbm, ⟨36, _⟩ => ⟨S_, .f32⟩
  | .hbm, ⟨37, _⟩ => ⟨S16384x2x4x1, .f32⟩
  | .hbm, ⟨38, _⟩ => ⟨S16384x2x4x1, .f32⟩
  | .hbm, ⟨39, _⟩ => ⟨S_, .f32⟩
  | .hbm, ⟨40, _⟩ => ⟨S16384x2x4x1, .f32⟩
  | .hbm, ⟨41, _⟩ => ⟨S16384x2x4x1, .f32⟩
  | .hbm, ⟨42, _⟩ => ⟨S16384x2x4x1, .f32⟩
  | .hbm, ⟨43, _⟩ => ⟨S16384x2x4x128, .f32⟩
  | .hbm, ⟨44, _⟩ => ⟨S16384x2x4x128, .f32⟩
  | .hbm, ⟨45, _⟩ => ⟨S1x1x1x128, .f32⟩
  | .hbm, ⟨46, _⟩ => ⟨S16384x2x4x128, .f32⟩
  | .hbm, ⟨47, _⟩ => ⟨S16384x2x4x128, .f32⟩
  | .hbm, ⟨48, _⟩ => ⟨S16384x1024, .f32⟩
  | .hbm, ⟨49, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== FfnFirst.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFirstRefIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S16384x5632 : Shape := ⟨2, ![16384, 5632]⟩
abbrev S5632x2048 : Shape := ⟨2, ![5632, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S2048x5632, .f32⟩
  | .hbm, ⟨35, _⟩ => ⟨S16384x5632, .f32⟩
  | .hbm, ⟨36, _⟩ => ⟨S16384x5632, .f32⟩
  | .hbm, ⟨37, _⟩ => ⟨S5632x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== FfnLast.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLastRefIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S16384x5632 : Shape := ⟨2, ![16384, 5632]⟩
abbrev S5632x2048 : Shape := ⟨2, ![5632, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S2048x5632, .f32⟩
  | .hbm, ⟨35, _⟩ => ⟨S16384x5632, .f32⟩
  | .hbm, ⟨36, _⟩ => ⟨S16384x5632, .f32⟩
  | .hbm, ⟨37, _⟩ => ⟨S5632x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== GdnProj.lean ====
abbrev S16384x2048 : Shape := ⟨2, ![16384, 2048]⟩
abbrev S1x2048 : Shape := ⟨2, ![1, 2048]⟩
abbrev S1x2048x5664 : Shape := ⟨3, ![1, 2048, 5664]⟩
abbrev S2048 : Shape := ⟨1, ![2048]⟩
abbrev S2048x5664 : Shape := ⟨2, ![2048, 5664]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5664, .f32⟩
  | .hbm, ⟨3, _⟩ => ⟨S2048, .f32⟩
  | .hbm, ⟨4, _⟩ => ⟨S1x2048, .f32⟩
  | .hbm, ⟨5, _⟩ => ⟨S2048x5664, .f32⟩
  | .hbm, ⟨6, _⟩ => ⟨S2048x5664, .bf16⟩
  | .hbm, ⟨7, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnProjRefIdeal.lean ====
abbrev S16384x2048 : Shape := ⟨2, ![16384, 2048]⟩
abbrev S1x2048 : Shape := ⟨2, ![1, 2048]⟩
abbrev S1x2048x5664 : Shape := ⟨3, ![1, 2048, 5664]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5664 : Shape := ⟨2, ![2048, 5664]⟩
abbrev S16384x5664 : Shape := ⟨2, ![16384, 5664]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5664, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x5664, .f32⟩
  | .hbm, ⟨21, _⟩ => ⟨S16384x5664, .f32⟩
  | .hbm, ⟨22, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutProj.lean ====
abbrev S2x16384x1024 : Shape := ⟨3, ![2, 16384, 1024]⟩
abbrev S16384x4096 : Shape := ⟨2, ![16384, 4096]⟩
abbrev S16384x1024 : Shape := ⟨2, ![16384, 1024]⟩
abbrev S16384x2048 : Shape := ⟨2, ![16384, 2048]⟩
abbrev S1x128 : Shape := ⟨2, ![1, 128]⟩
abbrev S1x2048x2048 : Shape := ⟨3, ![1, 2048, 2048]⟩
abbrev S128 : Shape := ⟨1, ![128]⟩
abbrev S2048x2048 : Shape := ⟨2, ![2048, 2048]⟩
abbrev S2x256x1024 : Shape := ⟨3, ![2, 256, 1024]⟩
abbrev S256x1024 : Shape := ⟨2, ![256, 1024]⟩
abbrev S256x2048 : Shape := ⟨2, ![256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S16384x4096, .f32⟩
  | .hbm, ⟨2, _⟩ => ⟨S16384x1024, .bf16⟩
  | .hbm, ⟨3, _⟩ => ⟨S16384x2048, .f32⟩
  | .hbm, ⟨4, _⟩ => ⟨S1x128, .f32⟩
  | .hbm, ⟨5, _⟩ => ⟨S1x2048x2048, .f32⟩
  | .hbm, ⟨6, _⟩ => ⟨S128, .f32⟩
  | .hbm, ⟨7, _⟩ => ⟨S1x128, .f32⟩
  | .hbm, ⟨8, _⟩ => ⟨S2048x2048, .f32⟩
  | .hbm, ⟨9, _⟩ => ⟨S2048x2048, .bf16⟩
  | .hbm, ⟨10, _⟩ => ⟨S16384x2048, .f32⟩
  | .local _ .vmem, ⟨0, _⟩ => ⟨S2x256x1024, .f32⟩
  | .local _ .vmem, ⟨1, _⟩ => ⟨S2x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S1x128, .f32⟩
  | .local _ .vmem, ⟨9, _⟩ => ⟨S2048x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S2x16384x1024 : Shape := ⟨3, ![2, 16384, 1024]⟩
abbrev S16384x4096 : Shape := ⟨2, ![16384, 4096]⟩
abbrev S16384x1024 : Shape := ⟨2, ![16384, 1024]⟩
abbrev S16384x2048 : Shape := ⟨2, ![16384, 2048]⟩
abbrev S1x128 : Shape := ⟨2, ![1, 128]⟩
abbrev S1x2048x2048 : Shape := ⟨3, ![1, 2048, 2048]⟩
abbrev S1x16384x1024 : Shape := ⟨3, ![1, 16384, 1024]⟩
abbrev S16384x8x128 : Shape := ⟨3, ![16384, 8, 128]⟩
abbrev S128 : Shape := ⟨1, ![128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S2048x2048 : Shape := ⟨2, ![2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S16384x4096, .f32⟩
  | .hbm, ⟨2, _⟩ => ⟨S16384x1024, .bf16⟩
  | .hbm, ⟨3, _⟩ => ⟨S16384x2048, .f32⟩
  | .hbm, ⟨4, _⟩ => ⟨S1x128, .f32⟩
  | .hbm, ⟨5, _⟩ => ⟨S1x2048x2048, .f32⟩
  | .hbm, ⟨6, _⟩ => ⟨S1x16384x1024, .f32⟩
  | .hbm, ⟨7, _⟩ => ⟨S16384x1024, .f32⟩
  | .hbm, ⟨8, _⟩ => ⟨S1x16384x1024, .f32⟩
  | .hbm, ⟨9, _⟩ => ⟨S16384x1024, .f32⟩
  | .hbm, ⟨10, _⟩ => ⟨S16384x1024, .f32⟩
  | .hbm, ⟨11, _⟩ => ⟨S16384x8x128, .f32⟩
  | .hbm, ⟨12, _⟩ => ⟨S16384x1024, .f32⟩
  | .hbm, ⟨13, _⟩ => ⟨S16384x8x128, .f32⟩
  | .hbm, ⟨14, _⟩ => ⟨S128, .f32⟩
  | .hbm, ⟨15, _⟩ => ⟨S16384x8x128, .f32⟩
  | .hbm, ⟨16, _⟩ => ⟨S_, .f32⟩
  | .hbm, ⟨17, _⟩ => ⟨S16384x8, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x1, .f32⟩
  | .hbm, ⟨26, _⟩ => ⟨S16384x8x128, .f32⟩
  | .hbm, ⟨27, _⟩ => ⟨S16384x8x128, .f32⟩
  | .hbm, ⟨28, _⟩ => ⟨S1x1x128, .f32⟩
  | .hbm, ⟨29, _⟩ => ⟨S16384x8x128, .f32⟩
  | .hbm, ⟨30, _⟩ => ⟨S16384x8x128, .f32⟩
  | .hbm, ⟨31, _⟩ => ⟨S16384x8x128, .f32⟩
  | .hbm, ⟨32, _⟩ => ⟨S16384x8x128, .f32⟩
  | .hbm, ⟨33, _⟩ => ⟨S_, .f32⟩
  | .hbm, ⟨34, _⟩ => ⟨S16384x8x128, .f32⟩
  | .hbm, ⟨35, _⟩ => ⟨S16384x8x128, .f32⟩
  | .hbm, ⟨36, _⟩ => ⟨S_, .f32⟩
  | .hbm, ⟨37, _⟩ => ⟨S16384x8x128, .f32⟩
  | .hbm, ⟨38, _⟩ => ⟨S16384x8x128, .f32⟩
  | .hbm, ⟨39, _⟩ => ⟨S16384x8x128, .f32⟩
  | .hbm, ⟨40, _⟩ => ⟨S16384x8x128, .f32⟩
  | .hbm, ⟨41, _⟩ => ⟨S16384x1024, .f32⟩
  | .hbm, ⟨42, _⟩ => ⟨S16384x1024, .f32⟩
  | .hbm, ⟨43, _⟩ => ⟨S16384x2048, .f32⟩
  | .hbm, ⟨44, _⟩ => ⟨S2048x2048, .f32⟩
  | .hbm, ⟨45, _⟩ => ⟨S16384x2048, .f32⟩
  | .hbm, ⟨46, _⟩ => ⟨S16384x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== AttnProj.lean ====
abbrev S16384x2048 : Shape := ⟨2, ![16384, 2048]⟩
abbrev S1x2048 : Shape := ⟨2, ![1, 2048]⟩
abbrev S1x2048x5664 : Shape := ⟨3, ![1, 2048, 5664]⟩
abbrev S1x128 : Shape := ⟨2, ![1, 128]⟩
abbrev S1x8 : Shape := ⟨2, ![1, 8]⟩
abbrev S2048x5664 : Shape := ⟨2, ![2048, 5664]⟩
abbrev S2048x32 : Shape := ⟨2, ![2048, 32]⟩
abbrev S_ : Shape := ⟨0, ![]⟩
abbrev S2048x128 : Shape := ⟨2, ![2048, 128]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S2048 : Shape := ⟨1, ![2048]⟩
abbrev S2048x1536 : Shape := ⟨2, ![2048, 1536]⟩
abbrev S128 : Shape := ⟨1, ![128]⟩
abbrev S8 : Shape := ⟨1, ![8]⟩
abbrev S16 : Shape := ⟨1, ![16]⟩
abbrev S1x16 : Shape := ⟨2, ![1, 16]⟩
abbrev S16384x1024 : Shape := ⟨2, ![16384, 1024]⟩
abbrev S16384x256 : Shape := ⟨2, ![16384, 256]⟩
abbrev S256x2048 : Shape := ⟨2, ![256, 2048]⟩
abbrev S256x128 : Shape := ⟨2, ![256, 128]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S2048x256 : Shape := ⟨2, ![2048, 256]⟩

abbrev nBuf : Space → Nat
  | .hbm => 121
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5664, .f32⟩
  | .hbm, ⟨3, _⟩ => ⟨S1x128, .f32⟩
  | .hbm, ⟨4, _⟩ => ⟨S1x128, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x8, .f32⟩
  | .hbm, ⟨9, _⟩ => ⟨S2048x5664, .f32⟩
  | .hbm, ⟨10, _⟩ => ⟨S2048x32, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S16384, .i32⟩
  | .hbm, ⟨15, _⟩ => ⟨S_, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S_, .i1⟩
  | .hbm, ⟨50, _⟩ => ⟨S16384, .i1⟩
  | .hbm, ⟨51, _⟩ => ⟨S16384, .i1⟩
  | .hbm, ⟨52, _⟩ => ⟨S16384, .i1⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S16384, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S16384x1, .f32⟩
  | .hbm, ⟨72, _⟩ => ⟨S1x32, .f32⟩
  | .hbm, ⟨73, _⟩ => ⟨S16384x32, .f32⟩
  | .hbm, ⟨74, _⟩ => ⟨S16384x32, .f32⟩
  | .hbm, ⟨75, _⟩ => ⟨S16384x32, .f32⟩
  | .hbm, ⟨76, _⟩ => ⟨S16384x1, .f32⟩
  | .hbm, ⟨77, _⟩ => ⟨S1x32, .f32⟩
  | .hbm, ⟨78, _⟩ => ⟨S16384x32, .f32⟩
  | .hbm, ⟨79, _⟩ => ⟨S16384x32, .f32⟩
  | .hbm, ⟨80, _⟩ => ⟨S16384x32, .f32⟩
  | .hbm, ⟨81, _⟩ => ⟨S_, .f32⟩
  | .hbm, ⟨82, _⟩ => ⟨S16384x32, .f32⟩
  | .hbm, ⟨83, _⟩ => ⟨S16384x32, .f32⟩
  | .hbm, ⟨84, _⟩ => ⟨S16384x32, .f32⟩
  | .hbm, ⟨85, _⟩ => ⟨S16384x128, .f32⟩
  | .hbm, ⟨86, _⟩ => ⟨S16384x32, .f32⟩
  | .hbm, ⟨87, _⟩ => ⟨S16384x32, .f32⟩
  | .hbm, ⟨88, _⟩ => ⟨S16384x32, .f32⟩
  | .hbm, ⟨89, _⟩ => ⟨S16384x32, .f32⟩
  | .hbm, ⟨90, _⟩ => ⟨S16384x128, .f32⟩
  | .hbm, ⟨91, _⟩ => ⟨S16384x32, .f32⟩
  | .hbm, ⟨92, _⟩ => ⟨S16384x32, .f32⟩
  | .hbm, ⟨93, _⟩ => ⟨S16384x128, .f32⟩
  | .hbm, ⟨94, _⟩ => ⟨S2048, .f32⟩
  | .hbm, ⟨95, _⟩ => ⟨S1x2048, .f32⟩
  | .hbm, ⟨96, _⟩ => ⟨S2048x1536, .f32⟩
  | .hbm, ⟨97, _⟩ => ⟨S2048x1536, .bf16⟩
  | .hbm, ⟨98, _⟩ => ⟨S2048x128, .bf16⟩
  | .hbm, ⟨99, _⟩ => ⟨S128, .f32⟩
  | .hbm, ⟨100, _⟩ => ⟨S1x128, .f32⟩
  | .hbm, ⟨101, _⟩ => ⟨S128, .f32⟩
  | .hbm, ⟨102, _⟩ => ⟨S1x128, .f32⟩
  | .hbm, ⟨103, _⟩ => ⟨S8, .f32⟩
  | .hbm, ⟨104, _⟩ => ⟨S8, .f32⟩
  | .hbm, ⟨105, _⟩ => ⟨S16, .f32⟩
  | .hbm, ⟨106, _⟩ => ⟨S1x16, .f32⟩
  | .hbm, ⟨107, _⟩ => ⟨S_, .i32⟩
  | .hbm, ⟨108, _⟩ => ⟨S_, .f32⟩
  | .hbm, ⟨109, _⟩ => ⟨S1x128, .f32⟩
  | .hbm, ⟨110, _⟩ => ⟨S8, .f32⟩
  | .hbm, ⟨111, _⟩ => ⟨S8, .f32⟩
  | .hbm, ⟨112, _⟩ => ⟨S16, .f32⟩
  | .hbm, ⟨113, _⟩ => ⟨S1x16, .f32⟩
  | .hbm, ⟨114, _⟩ => ⟨S_, .i32⟩
  | .hbm, ⟨115, _⟩ => ⟨S_, .f32⟩
  | .hbm, ⟨116, _⟩ => ⟨S1x128, .f32⟩
  | .hbm, ⟨117, _⟩ => ⟨S16384x1024, .bf16⟩
  | .hbm, ⟨118, _⟩ => ⟨S16384x256, .bf16⟩
  | .hbm, ⟨119, _⟩ => ⟨S16384x256, .bf16⟩
  | .hbm, ⟨120, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1536, .bf16⟩
  | .local _ .vmem, ⟨4, _⟩ => ⟨S2048x128, .bf16⟩
  | .local _ .vmem, ⟨5, _⟩ => ⟨S1x128, .f32⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x128, .f32⟩
  | .local _ .vmem, ⟨14, _⟩ => ⟨S1x128, .f32⟩
  | .local _ .vmem, ⟨15, _⟩ => ⟨S256x1024, .bf16⟩
  | .local _ .vmem, ⟨16, _⟩ => ⟨S256x1024, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x128, .f32⟩
  | .local _ .vmem, ⟨22, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v4 : Ref sig .tc := ⟨.hbm, 32, rfl⟩
abbrev main_v5 : Ref sig .tc := ⟨.hbm, 33, rfl⟩
abbrev main_c_1 : Ref sig .tc := ⟨.hbm, 34, rfl⟩
abbrev main_call2_v0 : Ref sig .tc := ⟨.hbm, 35, rfl⟩
abbrev main_call2_c : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_c_1 : Ref sig .tc := ⟨.hbm, 42, rfl⟩
abbrev main_call2_v5 : Ref sig .tc := ⟨.hbm, 43, rfl⟩
abbrev main_call2_v6 : Ref sig .tc := ⟨.hbm, 44, rfl⟩
abbrev main_call2_c_2 : Ref sig .tc := ⟨.hbm, 45, rfl⟩
abbrev main_call2_v7 : Ref sig .tc := ⟨.hbm, 46, rfl⟩
abbrev main_call2_v8 : Ref sig .tc := ⟨.hbm, 47, rfl⟩
abbrev main_call2_c_3 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst : Ref sig .tc := ⟨.hbm, 58, rfl⟩
abbrev main_v9 : Ref sig .tc := ⟨.hbm, 59, rfl⟩
abbrev main_v10 : Ref sig .tc := ⟨.hbm, 60, rfl⟩
abbrev main_cst_2 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_3 : Ref sig .tc := ⟨.hbm, 65, rfl⟩
abbrev main_v14 : Ref sig .tc := ⟨.hbm, 66, rfl⟩
abbrev main_v15 : Ref sig .tc := ⟨.hbm, 67, rfl⟩
abbrev main_cst_4 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_5 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_c_6 : Ref sig .tc := ⟨.hbm, 107, rfl⟩
abbrev main_call3_v0 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_c_7 : Ref sig .tc := ⟨.hbm, 114, rfl⟩
abbrev main_call4_v0 : Ref sig .tc := ⟨.hbm, 115, rfl⟩
abbrev main_v58 : Ref sig .tc := ⟨.hbm, 116, rfl⟩
abbrev main_v59_0 : Ref sig .tc := ⟨.hbm, 117, rfl⟩
abbrev main_v59_1 : Ref sig .tc := ⟨.hbm, 118, rfl⟩
abbrev main_v59_2 : Ref sig .tc := ⟨.hbm, 119, rfl⟩
abbrev main_v59_3 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AttnProjRefIdeal.lean ====
abbrev S16384x2048 : Shape := ⟨2, ![16384, 2048]⟩
abbrev S1x2048 : Shape := ⟨2, ![1, 2048]⟩
abbrev S1x2048x5664 : Shape := ⟨3, ![1, 2048, 5664]⟩
abbrev S1x128 : Shape := ⟨2, ![1, 128]⟩
abbrev S1x8 : Shape := ⟨2, ![1, 8]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5664 : Shape := ⟨2, ![2048, 5664]⟩
abbrev S2048x16 : Shape := ⟨2, ![2048, 16]⟩
abbrev S16384x16 : Shape := ⟨2, ![16384, 16]⟩
abbrev S2048x1024 : Shape := ⟨2, ![2048, 1024]⟩
abbrev S16384x1024 : Shape := ⟨2, ![16384, 1024]⟩
abbrev S16384x8x128 : Shape := ⟨3, ![16384, 8, 128]⟩
abbrev S2048x256 : Shape := ⟨2, ![2048, 256]⟩
abbrev S16384x256 : Shape := ⟨2, ![16384, 256]⟩
abbrev S16384x2x128 : Shape := ⟨3, ![16384, 2, 128]⟩
abbrev S128 : Shape := ⟨1, ![128]⟩
abbrev S16384x8 : Shape := ⟨2, ![16384, 8]⟩
abbrev S16384x8x1 : Shape := ⟨3, ![16384, 8, 1]⟩
abbrev S1x1x128 : Shape := ⟨3, ![1, 1, 128]⟩
abbrev S256 : Shape := ⟨1, ![256]⟩
abbrev S256x64 : Shape := ⟨2, ![256, 64]⟩
abbrev S64 : Shape := ⟨1, ![64]⟩
abbrev S1x64 : Shape := ⟨2, ![1, 64]⟩
abbrev S32 : Shape := ⟨1, ![32]⟩
abbrev S1x32 : Shape := ⟨2, ![1, 32]⟩
abbrev S16384x32 : Shape := ⟨2, ![16384, 32]⟩
abbrev S16384x8x64 : Shape := ⟨3, ![16384, 8, 64]⟩
abbrev S16384x8x32 : Shape := ⟨3, ![16384, 8, 32]⟩
abbrev S16384x1x32 : Shape := ⟨3, ![16384, 1, 32]⟩
abbrev S16384x2 : Shape := ⟨2, ![16384, 2]⟩
abbrev S16384x2x1 : Shape := ⟨3, ![16384, 2, 1]⟩
abbrev S16384x2x64 : Shape := ⟨3, ![16384, 2, 64]⟩
abbrev S16384x2x32 : Shape := ⟨3, ![16384, 2, 32]⟩
abbrev S8 : Shape := ⟨1, ![8]⟩
abbrev S16384x96 : Shape := ⟨2, ![16384, 96]⟩
abbrev S16384x128 : Shape := ⟨2, ![16384, 128]⟩

abbrev nBuf : Space → Nat
  | .hbm => 279
  | .vmem => 0
  | .smem => 0
  | _ => 0

abbrev hbmTy0_0 (i : Nat) : BufTy := match i % 128 with
  | 0 => ⟨S16384x2048, .f32⟩
  | 1 => ⟨S1x2048, .f32⟩
  | 2 => ⟨S1x2048x5664, .f32⟩
  | 3 => ⟨S1x128, .f32⟩
  | 4 => ⟨S1x128, .f32⟩
  | 5 => ⟨S1x8, .f32⟩
  | 6 => ⟨S1x8, .f32⟩
  | 7 => ⟨S1x8, .f32⟩
  | 8 => ⟨S1x8, .f32⟩
  | 9 => ⟨S2048, .f32⟩
  | 10 => ⟨S16384x2048, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x2048, .f32⟩
  | 22 => ⟨S16384x2048, .f32⟩
  | 23 => ⟨S1x2048, .f32⟩
  | 24 => ⟨S16384x2048, .f32⟩
  | 25 => ⟨S16384x2048, .f32⟩
  | 26 => ⟨S2048x5664, .f32⟩
  | 27 => ⟨S2048x16, .f32⟩
  | 28 => ⟨S16384x16, .f32⟩
  | 29 => ⟨S2048x5664, .f32⟩
  | 30 => ⟨S2048x16, .f32⟩
  | 31 => ⟨S16384x16, .f32⟩
  | 32 => ⟨S2048x5664, .f32⟩
  | 33 => ⟨S2048x1024, .f32⟩
  | 34 => ⟨S16384x1024, .f32⟩
  | 35 => ⟨S16384x8x128, .f32⟩
  | 36 => ⟨S2048x5664, .f32⟩
  | 37 => ⟨S2048x256, .f32⟩
  | 38 => ⟨S16384x256, .f32⟩
  | 39 => ⟨S16384x2x128, .f32⟩
  | 40 => ⟨S2048x5664, .f32⟩
  | 41 => ⟨S2048x256, .f32⟩
  | 42 => ⟨S16384x256, .f32⟩
  | 43 => ⟨S128, .f32⟩
  | 44 => ⟨S16384x8x128, .f32⟩
  | 45 => ⟨S_, .f32⟩
  | 46 => ⟨S16384x8, .f32⟩
  | 47 => ⟨S16384x8x1, .f32⟩
  | 48 => ⟨S_, .f32⟩
  | 49 => ⟨S16384x8x1, .f32⟩
  | 50 => ⟨S16384x8x1, .f32⟩
  | 51 => ⟨S_, .f32⟩
  | 52 => ⟨S16384x8x1, .f32⟩
  | 53 => ⟨S16384x8x1, .f32⟩
  | 54 => ⟨S16384x8x1, .f32⟩
  | 55 => ⟨S16384x8x128, .f32⟩
  | 56 => ⟨S16384x8x128, .f32⟩
  | 57 => ⟨S1x1x128, .f32⟩
  | 58 => ⟨S16384x8x128, .f32⟩
  | 59 => ⟨S16384x8x128, .f32⟩
  | 60 => ⟨S256, .f32⟩
  | 61 => ⟨S256x64, .f32⟩
  | 62 => ⟨S16384, .f32⟩
  | 63 => ⟨S64, .f32⟩
  | 64 => ⟨S1x64, .f32⟩
  | 65 => ⟨S256x64, .f32⟩
  | 66 => ⟨S16384, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S16384x1, .f32⟩
  | 82 => ⟨S1x32, .f32⟩
  | 83 => ⟨S16384x32, .f32⟩
  | 84 => ⟨S16384x32, .f32⟩
  | 85 => ⟨S16384x32, .f32⟩
  | 86 => ⟨S16384x1, .f32⟩
  | 87 => ⟨S1x32, .f32⟩
  | 88 => ⟨S16384x32, .f32⟩
  | 89 => ⟨S16384x32, .f32⟩
  | 90 => ⟨S16384x32, .f32⟩
  | 91 => ⟨S16384x8x64, .f32⟩
  | 92 => ⟨S16384x32, .f32⟩
  | 93 => ⟨S16384x32, .f32⟩
  | 94 => ⟨S16384x8x32, .f32⟩
  | 95 => ⟨S16384x8x32, .f32⟩
  | 96 => ⟨S16384x1x32, .f32⟩
  | 97 => ⟨S16384x1x32, .f32⟩
  | 98 => ⟨S16384x8x32, .f32⟩
  | 99 => ⟨S16384x8x32, .f32⟩
  | 100 => ⟨S16384x8x32, .f32⟩
  | 101 => ⟨S16384x8x32, .f32⟩
  | 102 => ⟨S16384x8x32, .f32⟩
  | 103 => ⟨S16384x8x32, .f32⟩
  | 104 => ⟨S16384x8x32, .f32⟩
  | 105 => ⟨S16384x8x32, .f32⟩
  | 106 => ⟨S16384x8x32, .f32⟩
  | 107 => ⟨S16384x8x32, .f32⟩
  | 108 => ⟨S16384x8x64, .f32⟩
  | 109 => ⟨S16384x8x64, .f32⟩
  | 110 => ⟨S16384x32, .f32⟩
  | 111 => ⟨S16384x32, .f32⟩
  | 112 => ⟨S16384x8x32, .f32⟩
  | 113 => ⟨S16384x8x32, .f32⟩
  | 114 => ⟨S16384x1x32, .f32⟩
  | 115 => ⟨S16384x1x32, .f32⟩
  | 116 => ⟨S16384x8x32, .f32⟩
  | 117 => ⟨S16384x8x32, .f32⟩
  | 118 => ⟨S16384x8x32, .f32⟩
  | 119 => ⟨S16384x8x32, .f32⟩
  | 120 => ⟨S16384x8x32, .f32⟩
  | 121 => ⟨S16384x8x32, .f32⟩
  | 122 => ⟨S16384x8x32, .f32⟩
  | 123 => ⟨S16384x8x32, .f32⟩
  | 124 => ⟨S16384x8x32, .f32⟩
  | 125 => ⟨S16384x8x32, .f32⟩
  | 126 => ⟨S16384x8x64, .f32⟩
  | 127 => ⟨S16384x8x128, .f32⟩
  | _ => ⟨S16384x2048, .f32⟩

abbrev hbmTy0_1 (i : Nat) : BufTy := match i % 128 with
  | 0 => ⟨S16384x1024, .f32⟩
  | 1 => ⟨S128, .f32⟩
  | 2 => ⟨S16384x2x128, .f32⟩
  | 3 => ⟨S_, .f32⟩
  | 4 => ⟨S16384x2, .f32⟩
  | 5 => ⟨S16384x2x1, .f32⟩
  | 6 => ⟨S_, .f32⟩
  | 7 => ⟨S16384x2x1, .f32⟩
  | 8 => ⟨S16384x2x1, .f32⟩
  | 9 => ⟨S_, .f32⟩
  | 10 => ⟨S16384x2x1, .f32⟩
  | 11 => ⟨S16384x2x1, .f32⟩
  | 12 => ⟨S16384x2x1, .f32⟩
  | 13 => ⟨S16384x2x128, .f32⟩
  | 14 => ⟨S16384x2x128, .f32⟩
  | 15 => ⟨S1x1x128, .f32⟩
  | 16 => ⟨S16384x2x128, .f32⟩
  | 17 => ⟨S16384x2x128, .f32⟩
  | 18 => ⟨S256, .f32⟩
  | 19 => ⟨S256x64, .f32⟩
  | 20 => ⟨S16384, .f32⟩
  | 21 => ⟨S64, .f32⟩
  | 22 => ⟨S1x64, .f32⟩
  | 23 => ⟨S256x64, .f32⟩
  | 24 => ⟨S16384, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S16384x1, .f32⟩
  | 40 => ⟨S1x32, .f32⟩
  | 41 => ⟨S16384x32, .f32⟩
  | 42 => ⟨S16384x32, .f32⟩
  | 43 => ⟨S16384x32, .f32⟩
  | 44 => ⟨S16384x1, .f32⟩
  | 45 => ⟨S1x32, .f32⟩
  | 46 => ⟨S16384x32, .f32⟩
  | 47 => ⟨S16384x32, .f32⟩
  | 48 => ⟨S16384x32, .f32⟩
  | 49 => ⟨S16384x2x64, .f32⟩
  | 50 => ⟨S16384x32, .f32⟩
  | 51 => ⟨S16384x32, .f32⟩
  | 52 => ⟨S16384x2x32, .f32⟩
  | 53 => ⟨S16384x2x32, .f32⟩
  | 54 => ⟨S16384x1x32, .f32⟩
  | 55 => ⟨S16384x1x32, .f32⟩
  | 56 => ⟨S16384x2x32, .f32⟩
  | 57 => ⟨S16384x2x32, .f32⟩
  | 58 => ⟨S16384x2x32, .f32⟩
  | 59 => ⟨S16384x2x32, .f32⟩
  | 60 => ⟨S16384x2x32, .f32⟩
  | 61 => ⟨S16384x2x32, .f32⟩
  | 62 => ⟨S16384x2x32, .f32⟩
  | 63 => ⟨S16384x2x32, .f32⟩
  | 64 => ⟨S16384x2x32, .f32⟩
  | 65 => ⟨S16384x2x32, .f32⟩
  | 66 => ⟨S16384x2x64, .f32⟩
  | 67 => ⟨S16384x2x64, .f32⟩
  | 68 => ⟨S16384x32, .f32⟩
  | 69 => ⟨S16384x32, .f32⟩
  | 70 => ⟨S16384x2x32, .f32⟩
  | 71 => ⟨S16384x2x32, .f32⟩
  | 72 => ⟨S16384x1x32, .f32⟩
  | 73 => ⟨S16384x1x32, .f32⟩
  | 74 => ⟨S16384x2x32, .f32⟩
  | 75 => ⟨S16384x2x32, .f32⟩
  | 76 => ⟨S16384x2x32, .f32⟩
  | 77 => ⟨S16384x2x32, .f32⟩
  | 78 => ⟨S16384x2x32, .f32⟩
  | 79 => ⟨S16384x2x32, .f32⟩
  | 80 => ⟨S16384x2x32, .f32⟩
  | 81 => ⟨S16384x2x32, .f32⟩
  | 82 => ⟨S16384x2x32, .f32⟩
  | 83 => ⟨S16384x2x32, .f32⟩
  | 84 => ⟨S16384x2x64, .f32⟩
  | 85 => ⟨S16384x2x128, .f32⟩
  | 86 => ⟨S16384x256, .f32⟩
  | 87 => ⟨S8, .f32⟩
  | 88 => ⟨S8, .f32⟩
  | 89 => ⟨S8, .f32⟩
  | 90 => ⟨S16384x8, .f32⟩
  | 91 => ⟨S8, .f32⟩
  | 92 => ⟨S1x8, .f32⟩
  | 93 => ⟨S16384x8, .f32⟩
  | 94 => ⟨S16384x8, .f32⟩
  | 95 => ⟨S_, .f32⟩
  | 96 => ⟨S16384x8, .f32⟩
  | 97 => ⟨S16384x8, .f32⟩
  | 98 => ⟨S16384x8, .f32⟩
  | 99 => ⟨S16384x8, .f32⟩
  | 100 => ⟨S16384x8, .i1⟩
  | 101 => ⟨S16384x8, .f32⟩
  | 102 => ⟨S16384x8, .f32⟩
  | 103 => ⟨S16384x8, .f32⟩
  | 104 => ⟨S16384x8, .f32⟩
  | 105 => ⟨S16384x8, .f32⟩
  | 106 => ⟨S16384x8, .f32⟩
  | 107 => ⟨S16384x8, .f32⟩
  | 108 => ⟨S16384x8, .f32⟩
  | 109 => ⟨S1x8, .f32⟩
  | 110 => ⟨S16384x8, .f32⟩
  | 111 => ⟨S16384x8, .f32⟩
  | 112 => ⟨S8, .f32⟩
  | 113 => ⟨S8, .f32⟩
  | 114 => ⟨S8, .f32⟩
  | 115 => ⟨S16384x8, .f32⟩
  | 116 => ⟨S8, .f32⟩
  | 117 => ⟨S1x8, .f32⟩
  | 118 => ⟨S16384x8, .f32⟩
  | 119 => ⟨S16384x8, .f32⟩
  | 120 => ⟨S_, .f32⟩
  | 121 => ⟨S16384x8, .f32⟩
  | 122 => ⟨S16384x8, .f32⟩
  | 123 => ⟨S16384x8, .f32⟩
  | 124 => ⟨S16384x8, .f32⟩
  | 125 => ⟨S16384x8, .i1⟩
  | 126 => ⟨S16384x8, .f32⟩
  | 127 => ⟨S16384x8, .f32⟩
  | _ => ⟨S16384x2048, .f32⟩

abbrev hbmTy0_2 (i : Nat) : BufTy := match i % 128 with
  | 0 => ⟨S16384x8, .f32⟩
  | 1 => ⟨S16384x8, .f32⟩
  | 2 => ⟨S16384x8, .f32⟩
  | 3 => ⟨S16384x8, .f32⟩
  | 4 => ⟨S16384x8, .f32⟩
  | 5 => ⟨S16384x8, .f32⟩
  | 6 => ⟨S1x8, .f32⟩
  | 7 => ⟨S16384x8, .f32⟩
  | 8 => ⟨S16384x8, .f32⟩
  | 9 => ⟨S_, .f32⟩
  | 10 => ⟨S16384x96, .f32⟩
  | 11 => ⟨S16384x16, .f32⟩
  | 12 => ⟨S16384x16, .f32⟩
  | 13 => ⟨S_, .f32⟩
  | 14 => ⟨S16384x16, .f32⟩
  | 15 => ⟨S16384x16, .f32⟩
  | 16 => ⟨S_, .f32⟩
  | 17 => ⟨S16384x16, .f32⟩
  | 18 => ⟨S16384x16, .f32⟩
  | 19 => ⟨S16384x128, .f32⟩
  | 20 => ⟨S16384x1024, .bf16⟩
  | 21 => ⟨S16384x256, .bf16⟩
  | 22 => ⟨S16384x256, .bf16⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_9 : Ref sig .tc := ⟨.hbm, 131, rfl⟩
abbrev main_v112 : Ref sig .tc := ⟨.hbm, 132, rfl⟩
abbrev main_v113 : Ref sig .tc := ⟨.hbm, 133, rfl⟩
abbrev main_cst_10 : Ref sig .tc := ⟨.hbm, 134, rfl⟩
abbrev main_v114 : Ref sig .tc := ⟨.hbm, 135, rfl⟩
abbrev main_v115 : Ref sig .tc := ⟨.hbm, 136, rfl⟩
abbrev main_cst_11 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_12 : Ref sig .tc := ⟨.hbm, 154, rfl⟩
abbrev main_v132 : Ref sig .tc := ⟨.hbm, 155, rfl⟩
abbrev main_v133 : Ref sig .tc := ⟨.hbm, 156, rfl⟩
abbrev main_cst_13 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_14 : Ref sig .tc := ⟨.hbm, 161, rfl⟩
abbrev main_v137 : Ref sig .tc := ⟨.hbm, 162, rfl⟩
abbrev main_v138 : Ref sig .tc := ⟨.hbm, 163, rfl⟩
abbrev main_cst_15 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_call0_cst : Ref sig .tc := ⟨.hbm, 223, rfl⟩
abbrev main_call0_v0 : Ref sig .tc := ⟨.hbm, 224, rfl⟩
abbrev main_call0_v1 : Ref sig .tc := ⟨.hbm, 225, rfl⟩
abbrev main_call0_v2 : Ref sig .tc := ⟨.hbm, 226, rfl⟩
abbrev main_call0_v3 : Ref sig .tc := ⟨.hbm, 227, rfl⟩
abbrev main_call0_v4 : Ref sig .tc := ⟨.hbm, 228, rfl⟩
abbrev main_call0_v5 : Ref sig .tc := ⟨.hbm, 229, rfl⟩
abbrev main_call0_v6 : Ref sig .tc := ⟨.hbm, 230, rfl⟩
abbrev main_call0_v7 : Ref sig .tc := ⟨.hbm, 231, rfl⟩
abbrev main_call0_v8 : Ref sig .tc := ⟨.hbm, 232, rfl⟩
abbrev main_call0_v9 : Ref sig .tc := ⟨.hbm, 233, rfl⟩
abbrev main_call0_v10 : Ref sig .tc := ⟨.hbm, 234, rfl⟩
abbrev main_call0_v11 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_call1_cst : Ref sig .tc := ⟨.hbm, 248, rfl⟩
abbrev main_call1_v0 : Ref sig .tc := ⟨.hbm, 249, rfl⟩
abbrev main_call1_v1 : Ref sig .tc := ⟨.hbm, 250, rfl⟩
abbrev main_call1_v2 : Ref sig .tc := ⟨.hbm, 251, rfl⟩
abbrev main_call1_v3 : Ref sig .tc := ⟨.hbm, 252, rfl⟩
abbrev main_call1_v4 : Ref sig .tc := ⟨.hbm, 253, rfl⟩
abbrev main_call1_v5 : Ref sig .tc := ⟨.hbm, 254, rfl⟩
abbrev main_call1_v6 : Ref sig .tc := ⟨.hbm, 255, rfl⟩
abbrev main_call1_v7 : Ref sig .tc := ⟨.hbm, 256, rfl⟩
abbrev main_call1_v8 : Ref sig .tc := ⟨.hbm, 257, rfl⟩
abbrev main_call1_v9 : Ref sig .tc := ⟨.hbm, 258, rfl⟩
abbrev main_call1_v10 : Ref sig .tc := ⟨.hbm, 259, rfl⟩
abbrev main_call1_v11 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_cst_16 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_cst_17 : Ref sig .tc := ⟨.hbm, 269, rfl⟩
abbrev main_v216 : Ref sig .tc := ⟨.hbm, 270, rfl⟩
abbrev main_v217 : Ref sig .tc := ⟨.hbm, 271, rfl⟩
abbrev main_cst_18 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩

abbrev nD : Nat := 1
abbrev τ : Topo := Topo.v7x

variable {F : FTy → Type} [FloatOps F]
-- ==== Conv.lean ====
abbrev S16384x4096 : Shape := ⟨2, ![16384, 4096]⟩
abbrev S1x5x3072 : Shape := ⟨3, ![1, 5, 3072]⟩
abbrev S16384x128 : Shape := ⟨2, ![16384, 128]⟩
abbrev S5x3072 : Shape := ⟨2, ![5, 3072]⟩
abbrev S_ : Shape := ⟨0, ![]⟩
abbrev S8x3072 : Shape := ⟨2, ![8, 3072]⟩
abbrev S16384x1024 : Shape := ⟨2, ![16384, 1024]⟩
abbrev S2048x128 : Shape := ⟨2, ![2048, 128]⟩
abbrev S256x3072 : Shape := ⟨2, ![256, 3072]⟩
abbrev S256x128 : Shape := ⟨2, ![256, 128]⟩
abbrev S256x1024 : Shape := ⟨2, ![256, 1024]⟩
abbrev S32x128 : Shape := ⟨2, ![32, 128]⟩
abbrev S272x3072 : Shape := ⟨2, ![272, 3072]⟩
abbrev S1x128 : Shape := ⟨2, ![1, 128]⟩
abbrev S256 : Shape := ⟨1, ![256]⟩
abbrev S256x1 : Shape := ⟨2, ![256, 1]⟩
abbrev S256x256 : Shape := ⟨2, ![256, 256]⟩
abbrev S128x128 : Shape := ⟨2, ![128, 128]⟩
abbrev S16x128 : Shape := ⟨2, ![16, 128]⟩

abbrev nBuf : Space → Nat
  | .hbm => 12
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S1x5x3072, .f32⟩
  | .hbm, ⟨2, _⟩ => ⟨S16384x128, .f32⟩
  | .hbm, ⟨3, _⟩ => ⟨S5x3072, .f32⟩
  | .hbm, ⟨4, _⟩ => ⟨S_, .i32⟩
  | .hbm, ⟨5, _⟩ => ⟨S_, .f32⟩
  | .hbm, ⟨6, _⟩ => ⟨S8x3072, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x128, .f32⟩
  | .hbm, ⟨11, _⟩ => ⟨S2048x128, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S8x3072, .f32⟩
  | .local _ .vmem, ⟨7, _⟩ => ⟨S256x128, .f32⟩
  | .local _ .vmem, ⟨8, _⟩ => ⟨S256x128, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | .local _ .vmem, ⟨17, _⟩ => ⟨S32x128, .f32⟩
  | .local _ .vmem, ⟨18, _⟩ => ⟨S32x128, .f32⟩
  | .local _ .vmem, ⟨19, _⟩ => ⟨S272x3072, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvRefIdeal.lean ====
abbrev S16384x4096 : Shape := ⟨2, ![16384, 4096]⟩
abbrev S1x5x3072 : Shape := ⟨3, ![1, 5, 3072]⟩
abbrev S16384x128 : Shape := ⟨2, ![16384, 128]⟩
abbrev S16384x3072 : Shape := ⟨2, ![16384, 3072]⟩
abbrev S_ : Shape := ⟨0, ![]⟩
abbrev S16388x3072 : Shape := ⟨2, ![16388, 3072]⟩
abbrev S1x1x3072 : Shape := ⟨3, ![1, 1, 3072]⟩
abbrev S3072 : Shape := ⟨1, ![3072]⟩
abbrev S1x3072 : Shape := ⟨2, ![1, 3072]⟩
abbrev S16384x1024 : Shape := ⟨2, ![16384, 1024]⟩
abbrev S16384x8x128 : Shape := ⟨3, ![16384, 8, 128]⟩
abbrev S16384x8 : Shape := ⟨2, ![16384, 8]⟩
abbrev S16384x8x1 : Shape := ⟨3, ![16384, 8, 1]⟩

abbrev nBuf : Space → Nat
  | .hbm => 83
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x5x3072, .f32⟩
  | .hbm, ⟨2, _⟩ => ⟨S16384x128, .f32⟩
  | .hbm, ⟨3, _⟩ => ⟨S16384x3072, .f32⟩
  | .hbm, ⟨4, _⟩ => ⟨S_, .i32⟩
  | .hbm, ⟨5, _⟩ => ⟨S_, .f32⟩
  | .hbm, ⟨6, _⟩ => ⟨S16388x3072, .f32⟩
  | .hbm, ⟨7, _⟩ => ⟨S16384x3072, .f32⟩
  | .hbm, ⟨8, _⟩ => ⟨S1x1x3072, .f32⟩
  | .hbm, ⟨9, _⟩ => ⟨S3072, .f32⟩
  | .hbm, ⟨10, _⟩ => ⟨S1x3072, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S16384x3072, .f32⟩
  | .hbm, ⟨17, _⟩ => ⟨S1x1x3072, .f32⟩
  | .hbm, ⟨18, _⟩ => ⟨S3072, .f32⟩
  | .hbm, ⟨19, _⟩ => ⟨S1x3072, .f32⟩
  | .hbm, ⟨20, _⟩ => ⟨S16384x3072, .f32⟩
  | .hbm, ⟨21, _⟩ => ⟨S16384x3072, .f32⟩
  | .hbm, ⟨22, _⟩ => ⟨S16384x3072, .f32⟩
  | .hbm, ⟨23, _⟩ => ⟨S16384x3072, .f32⟩
  | .hbm, ⟨24, _⟩ => ⟨S1x1x3072, .f32⟩
  | .hbm, ⟨25, _⟩ => ⟨S3072, .f32⟩
  | .hbm, ⟨26, _⟩ => ⟨S1x3072, .f32⟩
  | .hbm, ⟨27, _⟩ => ⟨S16384x3072, .f32⟩
  | .hbm, ⟨28, _⟩ => ⟨S16384x3072, .f32⟩
  | .hbm, ⟨29, _⟩ => ⟨S16384x3072, .f32⟩
  | .hbm, ⟨30, _⟩ => ⟨S16384x3072, .f32⟩
  | .hbm, ⟨31, _⟩ => ⟨S1x1x3072, .f32⟩
  | .hbm, ⟨32, _⟩ => ⟨S3072, .f32⟩
  | .hbm, ⟨33, _⟩ => ⟨S1x3072, .f32⟩
  | .hbm, ⟨34, _⟩ => ⟨S16384x3072, .f32⟩
  | .hbm, ⟨35, _⟩ => ⟨S16384x3072, .f32⟩
  | .hbm, ⟨36, _⟩ => ⟨S16384x3072, .f32⟩
  | .hbm, ⟨37, _⟩ => ⟨S16384x3072, .f32⟩
  | .hbm, ⟨38, _⟩ => ⟨S1x1x3072, .f32⟩
  | .hbm, ⟨39, _⟩ => ⟨S3072, .f32⟩
  | .hbm, ⟨40, _⟩ => ⟨S1x3072, .f32⟩
  | .hbm, ⟨41, _⟩ => ⟨S16384x3072, .f32⟩
  | .hbm, ⟨42, _⟩ => ⟨S16384x3072, .f32⟩
  | .hbm, ⟨43, _⟩ => ⟨S16384x3072, .f32⟩
  | .hbm, ⟨44, _⟩ => ⟨S16384x3072, .f32⟩
  | .hbm, ⟨45, _⟩ => ⟨S16384x3072, .f32⟩
  | .hbm, ⟨46, _⟩ => ⟨S_, .f32⟩
  | .hbm, ⟨47, _⟩ => ⟨S16384x3072, .f32⟩
  | .hbm, ⟨48, _⟩ => ⟨S16384x3072, .f32⟩
  | .hbm, ⟨49, _⟩ => ⟨S_, .f32⟩
  | .hbm, ⟨50, _⟩ => ⟨S16384x3072, .f32⟩
  | .hbm, ⟨51, _⟩ => ⟨S16384x3072, .f32⟩
  | .hbm, ⟨52, _⟩ => ⟨S16384x3072, .f32⟩
  | .hbm, ⟨53, _⟩ => ⟨S16384x1024, .f32⟩
  | .hbm, ⟨54, _⟩ => ⟨S16384x8x128, .f32⟩
  | .hbm, ⟨55, _⟩ => ⟨S16384x8x128, .f32⟩
  | .hbm, ⟨56, _⟩ => ⟨S_, .f32⟩
  | .hbm, ⟨57, _⟩ => ⟨S16384x8, .f32⟩
  | .hbm, ⟨58, _⟩ => ⟨S16384x8x1, .f32⟩
  | .hbm, ⟨59, _⟩ => ⟨S_, .f32⟩
  | .hbm, ⟨60, _⟩ => ⟨S16384x8x1, .f32⟩
  | .hbm, ⟨61, _⟩ => ⟨S16384x8x1, .f32⟩
  | .hbm, ⟨62, _⟩ => ⟨S16384x8x1, .f32⟩
  | .hbm, ⟨63, _⟩ => ⟨S16384x8x128, .f32⟩
  | .hbm, ⟨64, _⟩ => ⟨S16384x8x128, .f32⟩
  | .hbm, ⟨65, _⟩ => ⟨S_, .f32⟩
  | .hbm, ⟨66, _⟩ => ⟨S16384x8x128, .f32⟩
  | .hbm, ⟨67, _⟩ => ⟨S16384x8x128, .f32⟩
  | .hbm, ⟨68, _⟩ => ⟨S16384x1024, .f32⟩
  | .hbm, ⟨69, _⟩ => ⟨S16384x8x128, .f32⟩
  | .hbm, ⟨70, _⟩ => ⟨S16384x8x128, .f32⟩
  | .hbm, ⟨71, _⟩ => ⟨S_, .f32⟩
  | .hbm, ⟨72, _⟩ => ⟨S16384x8, .f32⟩
  | .hbm, ⟨73, _⟩ => ⟨S16384x8x1, .f32⟩
  | .hbm, ⟨74, _⟩ => ⟨S_, .f32⟩
  | .hbm, ⟨75, _⟩ => ⟨S16384x8x1, .f32⟩
  | .hbm, ⟨76, _⟩ => ⟨S16384x8x1, .f32⟩
  | .hbm, ⟨77, _⟩ => ⟨S16384x8x1, .f32⟩
  | .hbm, ⟨78, _⟩ => ⟨S16384x8x128, .f32⟩
  | .hbm, ⟨79, _⟩ => ⟨S16384x8x128, .f32⟩
  | .hbm, ⟨80, _⟩ => ⟨S16384x1024, .f32⟩
  | .hbm, ⟨81, _⟩ => ⟨S16384x1024, .f32⟩
  | .hbm, ⟨82, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_0 : Ref sig .tc := ⟨.hbm, 56, rfl⟩
abbrev main_v42 : Ref sig .tc := ⟨.hbm, 57, rfl⟩
abbrev main_v43 : Ref sig .tc := ⟨.hbm, 58, rfl⟩
abbrev main_cst_1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_3 : Ref sig .tc := ⟨.hbm, 71, rfl⟩
abbrev main_v54 : Ref sig .tc := ⟨.hbm, 72, rfl⟩
abbrev main_v55 : Ref sig .tc := ⟨.hbm, 73, rfl⟩
abbrev main_cst_4 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Proof.Pieces.lean ====
/- Reading a buffer back after several stores. -/
module

public import Idealize.ShloMosaic.Lib.Pipeline.ValueKit
public import Idealize.ShloMosaic.Lib.Pipeline.ReadBack

@[expose] public section

noncomputable section

namespace Cert.Pieces

open Idealize.ShloMosaic

variable {Val : EltTy → Type} {S : Shape} {e : EltTy} [∀ e, Nonempty (Val e)]

/-- A store that later stores overwrite at an index does not show there. -/
theorem canon_append (L' : List (View.Piece Val S e)) (y : S.Idx) : ∀ (L : List (View.Piece Val S e)),
    (∃ p ∈ L, y ∈ p.1.set) → View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_append L' y L ⟨q, hq', hyq⟩

/-- Four stores over an earlier one, the four covering the index: the earlier one does not show. -/
theorem canon_four (p0 p1 p2 p3 q : View.Piece Val S e) (y : S.Idx) (h : ∃ p ∈ [p0, p1, p2, p3], y ∈ p.1.set) :
    View.canon [p0, p1, p2, p3, q] y = View.canon [p0, p1, p2, p3] y :=
  canon_append [q] y [p0, p1, p2, p3] h

/-- A load of the whole buffer after several stores reads what they left. -/
theorem readCov_whole {sig : RefSig} {κ : Kind} {sp : Space} (v : View sig κ sp S e) {off : Fin S.rank → ℕ}
    (inb : ∀ a, off a + S.size a ≤ S.size a) (L : List (View.Piece Val S e)) (h : ∀ a, off a = 0) :
    v.readCov L (Rect.unit off S.size inb).toLoadRect = View.canon L := by
  obtain rfl : off = fun _ => 0 := funext h
  rw [View.readCov_eq_canon']
  funext j
  exact congrArg _ (Rect.emb_whole_apply S j)

end Cert.Pieces

end
-- ==== Proof.Online.lean ====
/- The running softmax over the extended reals: a maximum, a sum of exponentials and a weighted sum, carried over the keys
   block by block, are at every step the maximum, the sum and the weighted sum of all keys so far. No score and no value
   needs to be finite. -/
module

public import Idealize.ShloMosaic.Lib.Pointwise

@[expose] public section

noncomputable section

namespace Cert.Online

open Idealize.ShloMosaic

/-- The exponential of `⊥` is zero. -/
theorem exp_bot : Ideal.exp ⊥ = 0 := rfl

/-- An exponential is not negative. -/
theorem exp_nonneg (x : EReal) : 0 ≤ Ideal.exp x := by
  induction x using EReal.rec with
  | bot => exact le_refl _
  | coe r => exact EReal.coe_nonneg.2 (Real.exp_pos r).le
  | top => exact le_top

/-- Below a bound that is not above zero, the exponential is not infinite. -/
theorem exp_ne_top {x : EReal} (h : x ≠ ⊤) : Ideal.exp x ≠ ⊤ := by
  induction x using EReal.rec with
  | bot => exact EReal.zero_ne_top
  | coe r => exact EReal.coe_ne_top _
  | top => exact absurd rfl h

/-- A difference whose subtrahend is not smaller is not `⊤`. -/
theorem sub_ne_top {x y : EReal} (h : x ≤ y) : x - y ≠ ⊤ := by
  induction x using EReal.rec with
  | bot => rw [EReal.bot_sub]; exact bot_ne_top
  | coe r =>
    induction y using EReal.rec with
    | bot => exact absurd h (not_le.2 (EReal.bot_lt_coe r))
    | coe s => rw [← EReal.coe_sub]; exact EReal.coe_ne_top _
    | top => rw [EReal.sub_top]; exact bot_ne_top
  | top => rw [top_le_iff.1 h, EReal.sub_top]; exact bot_ne_top

/-- Rebasing an exponential from one maximum to a larger one multiplies it by the exponential of the difference. -/
theorem exp_rebase {s a b : EReal} (h : s ≤ a) (h' : a ≤ b) :
    Ideal.exp (a - b) * Ideal.exp (s - a) = Ideal.exp (s - b) := by
  induction b using EReal.rec with
  | bot =>
    obtain rfl := le_bot_iff.1 h'
    obtain rfl := le_bot_iff.1 h
    simp [exp_bot]
  | top => simp [exp_bot]
  | coe b =>
    induction a using EReal.rec with
    | bot => obtain rfl := le_bot_iff.1 h; simp [exp_bot]
    | top => exact absurd h' (not_le.2 (EReal.coe_lt_top b))
    | coe a =>
      induction s using EReal.rec with
      | bot => simp [exp_bot]
      | top => exact absurd h (not_le.2 (EReal.coe_lt_top a))
      | coe s =>
        rw [← EReal.coe_sub, ← EReal.coe_sub, ← EReal.coe_sub]
        change ((Real.exp (a - b) : ℝ) : EReal) * ((Real.exp (s - a) : ℝ) : EReal) = ((Real.exp (s - b) : ℝ) : EReal)
        rw [← EReal.coe_mul, ← Real.exp_add]
        congr 2; ring

/-- A factor that is neither negative nor infinite passes through a sum. -/
theorem mul_sum {ι : Type*} (S : Finset ι) (f : ι → EReal) {x : EReal} (h : 0 ≤ x) (h' : x ≠ ⊤) :
    x * ∑ i ∈ S, f i = ∑ i ∈ S, x * f i := by
  classical
  induction S using Finset.induction_on with
  | empty => simp
  | insert a S ha ih => rw [Finset.sum_insert ha, Finset.sum_insert ha, EReal.left_distrib_of_nonneg_of_ne_top h h', ih]

variable {n : ℕ}

/-- The largest score of the blocks `0 … j`. -/
def top (S : ℕ → Fin n → EReal) (j : ℕ) : EReal := (Finset.range (j + 1)).sup fun a => Finset.univ.sup (S a)

/-- The sum over the blocks `0 … j` of the exponentials, based at `M`, each weighted by its entry of `V`. -/
def mass (S V : ℕ → Fin n → EReal) (M : EReal) (j : ℕ) : EReal :=
  ∑ a ∈ Finset.range (j + 1), ∑ k : Fin n, Ideal.exp (S a k - M) * V a k

theorem top_zero (S : ℕ → Fin n → EReal) : top S 0 = max ⊥ (Finset.univ.sup (S 0)) := by
  simp [top]

theorem top_succ (S : ℕ → Fin n → EReal) (j : ℕ) : top S (j + 1) = max (top S j) (Finset.univ.sup (S (j + 1))) := by
  rw [top, Finset.range_add_one, Finset.sup_insert, sup_comm]; rfl

theorem le_top {S : ℕ → Fin n → EReal} {a j : ℕ} (h : a ≤ j) (k : Fin n) : S a k ≤ top S j :=
  (Finset.le_sup (f := S a) (Finset.mem_univ k)).trans
    (Finset.le_sup (f := fun a => Finset.univ.sup (S a)) (Finset.mem_range.2 (Nat.lt_succ_of_le h)))

theorem mass_zero (S V : ℕ → Fin n → EReal) (M x : EReal) :
    mass S V M 0 = Ideal.exp x * 0 + ∑ k : Fin n, Ideal.exp (S 0 k - M) * V 0 k := by
  simp [mass]

/-- One more block: the mass so far is rebased to the new maximum and the block's own mass added. -/
theorem mass_succ (S V : ℕ → Fin n → EReal) (j : ℕ) :
    mass S V (top S (j + 1)) (j + 1)
      = Ideal.exp (top S j - top S (j + 1)) * mass S V (top S j) j
        + ∑ k : Fin n, Ideal.exp (S (j + 1) k - top S (j + 1)) * V (j + 1) k := by
  have hM : top S j ≤ top S (j + 1) := by rw [top_succ]; exact le_max_left _ _
  rw [mass, Finset.sum_range_succ]
  congr 1
  rw [mass, mul_sum _ _ (exp_nonneg _) (exp_ne_top (sub_ne_top hM))]
  refine Finset.sum_congr rfl fun a ha => ?_
  rw [mul_sum _ _ (exp_nonneg _) (exp_ne_top (sub_ne_top hM))]
  refine Finset.sum_congr rfl fun k _ => ?_
  rw [← mul_assoc, exp_rebase (le_top (Nat.lt_succ_iff.1 (Finset.mem_range.1 ha)) k) hM]

end Cert.Online

end
-- ==== Proof.AttnSpec.lean ====
/- Softmax attention with a root-mean-square norm over each head, as plain formulas over the extended reals, and the one
   law the flash kernel needs of it: dividing after the weighted sum or before it gives the same normalised row. -/
module

public import proofs.«01_k».proof.Proof.Online

@[expose] public section

noncomputable section

namespace Cert.AttnSpec

open Idealize.ShloMosaic

/-- The score of query row `R` of head `H` against key row `k` (four heads share one head of keys), scaled. -/
def scoreAt (Q : FVec Ideal ⟨2, ![16384, 1024]⟩ .bf16) (K : FVec Ideal ⟨2, ![16384, 256]⟩ .bf16) (R : Fin 16384) (H : Fin 8)
    (k : Fin 16384) : EReal :=
  (∑ e : Fin 128, Q (ix2 R ⟨H.val * 128 + e.val, by omega⟩) * K (ix2 k ⟨H.val / 4 * 128 + e.val, by omega⟩)) * Ideal.ofBits .f32 0x3DB504F3#32

/-- The entries `o` of one head's row, scaled by the reciprocal root of their mean square (plus the printed epsilon), times the weights. -/
def normed (o g : Fin 128 → EReal) (d : Fin 128) : EReal :=
  o d * Ideal.rsqrt (Ideal.div (∑ e : Fin 128, o e * o e) (Ideal.ofBits .f32 0x43000000#32) + Ideal.ofBits .f32 0x358637BD#32) * g d

variable {n : ℕ}

/-- The sum of exponentials of the scores, based at the largest. -/
def total (s : Fin n → EReal) : EReal := ∑ k, Ideal.exp (s k - Finset.univ.sup s)

/-- The weighted sum of the values, divided by the sum of the weights at the end. -/
def late (s v : Fin n → EReal) : EReal := Ideal.div (∑ k, Ideal.exp (s k - Finset.univ.sup s) * v k) (total s)

/-- The sum of the values weighted by the softmax. -/
def early (s v : Fin n → EReal) : EReal := ∑ k, v k * Ideal.div (Ideal.exp (s k - Finset.univ.sup s)) (total s)

/-- Negative infinity's pattern. -/
theorem ofBits_neg_inf : Ideal.ofBits .f32 0xFF800000#32 = ⊥ := by simp [Ideal.ofBits, Ideal.ieee]

/-- The pattern of 128. -/
theorem ofBits_128 : Ideal.ofBits .f32 0x43000000#32 = ((128 : ℝ) : EReal) := by
  simp [Ideal.ofBits, Ideal.ieee, -EReal.coe_mul]; norm_num

/-- The epsilon's pattern is a real number. -/
theorem ofBits_eps : Ideal.ofBits .f32 0x358637BD#32 ≠ ⊥ := by
  simp [Ideal.ofBits, Ideal.ieee, -EReal.coe_mul]

/-- A fold of the maximum from `⊥` is the supremum. -/
theorem fold_max (s : Fin n → EReal) : Finset.univ.fold max ⊥ s = Finset.univ.sup s := rfl

theorem total_nonneg (s : Fin n → EReal) : 0 ≤ total s := Finset.sum_nonneg fun _ _ => Online.exp_nonneg _

/-- Where the sum of exponentials is not zero the two forms agree entry by entry. -/
theorem late_eq_early (s v : Fin n → EReal) (h : total s ≠ 0) : late s v = early s v := by
  have hi : 0 ≤ (total s)⁻¹ := EReal.inv_nonneg_of_nonneg (total_nonneg s)
  have ht : (total s)⁻¹ ≠ ⊤ := by
    induction total s using EReal.rec with
    | bot => simp
    | top => simp
    | coe r => rw [← EReal.coe_inv]; exact EReal.coe_ne_top _
  rw [late, early, Ideal.div, if_neg h, mul_comm, Online.mul_sum _ _ hi ht]
  refine Finset.sum_congr rfl fun k _ => ?_
  rw [Ideal.div, if_neg h]
  ac_rfl

/-- Where it is zero every weight is, and the late form is the undefined quotient. -/
theorem late_degenerate (s v : Fin n → EReal) (h : total s = 0) : late s v = ⊥ := by
  have h0 : ∀ k ∈ Finset.univ, Ideal.exp (s k - Finset.univ.sup s) = 0 :=
    (Finset.sum_eq_zero_iff_of_nonneg fun _ _ => Online.exp_nonneg _).1 h
  rw [late, h, Finset.sum_eq_zero fun k hk => by rw [h0 k hk, zero_mul]]
  simp [Ideal.div]

/-- A sum of terms each zero or infinite is zero or infinite. -/
theorem sum_trichotomy {ι : Type*} (S : Finset ι) (f : ι → EReal) (h : ∀ i ∈ S, f i = 0 ∨ f i = ⊤ ∨ f i = ⊥) :
    ∑ i ∈ S, f i = 0 ∨ ∑ i ∈ S, f i = ⊤ ∨ ∑ i ∈ S, f i = ⊥ := by
  refine Finset.sum_induction f (fun x => x = 0 ∨ x = ⊤ ∨ x = ⊥) ?_ (Or.inl rfl) h
  rintro a b (rfl | rfl | rfl) (rfl | rfl | rfl) <;> simp

/-- Where the sum of exponentials is zero the early form is a sum of undefined quotients, each zero or infinite. -/
theorem early_degenerate (s v : Fin n → EReal) (h : total s = 0) : early s v = 0 ∨ early s v = ⊤ ∨ early s v = ⊥ := by
  have h0 : ∀ k ∈ Finset.univ, Ideal.exp (s k - Finset.univ.sup s) = 0 :=
    (Finset.sum_eq_zero_iff_of_nonneg fun _ _ => Online.exp_nonneg _).1 h
  refine sum_trichotomy _ _ fun k hk => ?_
  rw [h0 k hk, h, show Ideal.div 0 0 = ⊥ by simp [Ideal.div]]
  rcases lt_trichotomy (v k) 0 with hv | hv | hv
  · exact Or.inr (Or.inl (EReal.mul_bot_of_neg hv))
  · exact Or.inl (by rw [hv, zero_mul])
  · exact Or.inr (Or.inr (EReal.mul_bot_of_pos hv))

/-- A square is not negative. -/
theorem mul_self_nonneg (x : EReal) : 0 ≤ x * x := by
  rcases le_total 0 x with h | h
  · exact EReal.mul_nonneg h h
  · exact EReal.mul_nonneg_iff.2 (Or.inr ⟨h, h⟩)

/-- A row of zeros and infinities normalises to zero. -/
theorem normed_degenerate (o g : Fin 128 → EReal) (d : Fin 128) (h : ∀ e, o e = 0 ∨ o e = ⊤ ∨ o e = ⊥) : normed o g d = 0 := by
  by_cases hz : ∀ e, o e = 0
  · rw [normed, hz d, zero_mul, zero_mul]
  · obtain ⟨e, he⟩ := not_forall.1 hz
    have hsq : o e * o e = ⊤ := by
      rcases h e with h | h | h
      · exact absurd h he
      · rw [h]; rfl
      · rw [h]; rfl
    have hs : ∑ e : Fin 128, o e * o e = ⊤ :=
      top_le_iff.1 (hsq ▸ Finset.single_le_sum (f := fun e => o e * o e) (fun i _ => mul_self_nonneg _) (Finset.mem_univ e))
    have hd : Ideal.div ⊤ (Ideal.ofBits .f32 0x43000000#32) = ⊤ := by
      rw [ofBits_128, Ideal.div, if_neg (by norm_num), ← EReal.coe_inv]
      exact EReal.top_mul_of_pos (by norm_num)
    rw [normed, hs, hd, EReal.top_add_of_ne_bot ofBits_eps, show Ideal.rsqrt ⊤ = 0 from rfl, mul_zero, zero_mul]

/-- The normalised row is the same whether the weights are divided before the weighted sum or after it. -/
theorem normed_late (s : Fin n → EReal) (v : Fin 128 → Fin n → EReal) (g : Fin 128 → EReal) (d : Fin 128) :
    normed (fun d => late s (v d)) g d = normed (fun d => early s (v d)) g d := by
  by_cases h : total s = 0
  · rw [normed_degenerate _ _ _ fun e => Or.inr (Or.inr (late_degenerate s (v e) h)),
      normed_degenerate _ _ _ fun e => early_degenerate s (v e) h]
  · rw [show (fun d => late s (v d)) = fun d => early s (v d) from funext fun e => late_eq_early s (v e) h]

end Cert.AttnSpec

end
-- ==== Proof.AttnBlock.lean ====
/- The flash attention, one block of keys: what a block of scores adds to the running maxima, sums and weighted sums. -/
module

public import proofs.«01_k».proof.Proof.Gen.AttnIdeal.Value
public import Idealize.ShloMosaic.Lib.Pipeline.ValueKit
public import proofs.«01_k».proof.Proof.Pieces
public import proofs.«01_k».proof.Proof.AttnSpec
public import Idealize.ShloMosaic.Lib.Pointwise

@[expose] public section

set_option maxRecDepth 16384

noncomputable section

open Idealize.ShloMosaic Idealize.ShloMosaic.TcCoe Idealize.SL.Sem

namespace Cert.AttnIdeal.Step

open Cert.AttnIdeal Cert.AttnIdeal.Gen Cert.AttnIdeal.Value

variable (m : (ℓ : Loc nD τ sig) → Buf (Elt Ideal) ℓ)

/-- One score of a block: head `h`'s query row `r` against key row `j`, scaled. -/
def score (q : FVec Ideal S512x512 .bf16) (k : FVec Ideal S512x128 .bf16) (h : Fin 4) (r j : Fin 512) : EReal :=
  (∑ e : Fin 128, q (ix2 r ⟨h * 128 + e, by omega⟩) * k (ix2 j e)) * Ideal.ofBits .f32 0x3DB504F3#32

/-- The maximum after the block, from the maximum `M` before it. -/
def newTop (q : FVec Ideal S512x512 .bf16) (k : FVec Ideal S512x128 .bf16) (M : EReal) (h : Fin 4) (r : Fin 512) : EReal :=
  max M (Finset.univ.fold max (Ideal.ofBits .f32 0xFF800000#32) fun j => score q k h r j)

/-- The sum of exponentials after the block, from the maximum `M` and the sum `L` before it. -/
def newSum (q : FVec Ideal S512x512 .bf16) (k : FVec Ideal S512x128 .bf16) (M L : EReal) (h : Fin 4) (r : Fin 512) : EReal :=
  Ideal.exp (M - newTop q k M h r) * L + ∑ j : Fin 512, Ideal.exp (score q k h r j - newTop q k M h r)

/-- One entry of the weighted sum of the values after the block, from the maximum `M` and the entry `A` before it. -/
def newAcc (q : FVec Ideal S512x512 .bf16) (k v : FVec Ideal S512x128 .bf16) (M A : EReal) (h : Fin 4) (r : Fin 512)
    (d : Fin 128) : EReal :=
  Ideal.exp (M - newTop q k M h r) * A + ∑ j : Fin 512, Ideal.exp (score q k h r j - newTop q k M h r) * v (ix2 j d)

/-- One row of one head after the last block: the weighted sums over the sum of exponentials. -/
def attended (q : FVec Ideal S512x512 .bf16) (k v : FVec Ideal S512x128 .bf16) (M L A : FVec Ideal S4x512x128 .f32) (h : Fin 4)
    (r : Fin 512) (d : Fin 128) : EReal :=
  Ideal.div (newAcc q k v (M (ix3 h r 0)) (A (ix3 h r d)) h r d) (newSum q k (M (ix3 h r 0)) (L (ix3 h r 0)) h r)

end Cert.AttnIdeal.Step

end
-- ==== Proof.AttnFirst.lean ====
/- The flash attention: what the body leaves in its buffers at a first grid point of a run. -/
module

public import proofs.«01_k».proof.Proof.AttnBlock
public import Idealize.ShloMosaic.Lib.Pipeline.ValueKit
public import proofs.«01_k».proof.Proof.Pieces
public import Idealize.ShloMosaic.Lib.Pointwise

@[expose] public section

set_option maxRecDepth 16384

noncomputable section

open Idealize.ShloMosaic Idealize.ShloMosaic.TcCoe Idealize.SL.Sem

namespace Cert.AttnIdeal.Step

open Cert.AttnIdeal Cert.AttnIdeal.Gen Cert.AttnIdeal.Value

variable (m : (ℓ : Loc nD τ sig) → Buf (Elt Ideal) ℓ)

set_option maxHeartbeats 1600000 in
/-- At a first point of a run the first scratch is left holding the new maxima, on every lane. -/
theorem top_A (c : Dev nD) (t : Fin cfg0.N) (acc) (h0 : t.val % 32 = 0) (h1 : ¬t.val % 32 = 31) (y : S4x512x128.Idx) :
    (stAt0 m c t.val t.isLt acc).2.1 y
      = newTop (iblk m c 0 t) (iblk m c 1 t) (Ideal.ofBits .f32 0xFF800000#32) (y 0) (y 1) := by
  suffices ∀ R, R = newTop (iblk m c 0 t) (iblk m c 1 t) (Ideal.ofBits .f32 0xFF800000#32) (y 0) (y 1)
      → (stAt0 m c t.val t.isLt acc).2.1 y = R from this _ rfl
  intro R hR
  rw [stAt0_A m c t acc h0 h1]
  dsimp only
  frame_open
  simp (disch := decide) only [↓ View.readCov_skip, ↓ View.readCov_cons_toLoadRect, ↓ View.readCov_fill]
  frame_out
  clear h0 h1
  refine (Pieces.canon_four _ _ _ _ _ _ (View.cover_of_tiled_head _ _ _ (by rfl) _)).trans ?_
  canon_tiles x h
  all_goals (subst hR; open_payloads; pointwise [newTop, newSum, newAcc, score]; blk_point [])

set_option maxHeartbeats 1600000 in
/-- At a first point of a run the second scratch is left holding the new sums, on every lane. -/
theorem sum_A (c : Dev nD) (t : Fin cfg0.N) (acc) (h0 : t.val % 32 = 0) (h1 : ¬t.val % 32 = 31) (y : S4x512x128.Idx) :
    (stAt0 m c t.val t.isLt acc).2.2.1 y
      = newSum (iblk m c 0 t) (iblk m c 1 t) (Ideal.ofBits .f32 0xFF800000#32) 0 (y 0) (y 1) := by
  suffices ∀ R, R = newSum (iblk m c 0 t) (iblk m c 1 t) (Ideal.ofBits .f32 0xFF800000#32) 0 (y 0) (y 1)
      → (stAt0 m c t.val t.isLt acc).2.2.1 y = R from this _ rfl
  intro R hR
  rw [stAt0_A m c t acc h0 h1]
  dsimp only
  frame_open
  simp (disch := decide) only [↓ View.readCov_skip, ↓ View.readCov_cons_toLoadRect, ↓ View.readCov_fill]
  frame_out
  clear h0 h1
  refine (Pieces.canon_four _ _ _ _ _ _ (View.cover_of_tiled_head _ _ _ (by rfl) _)).trans ?_
  canon_tiles x h
  all_goals (subst hR; open_payloads; pointwise [newTop, newSum, newAcc, score]; blk_point [])

set_option maxHeartbeats 1600000 in
/-- At a first point of a run the third scratch is left holding the new weighted sums. -/
theorem acc_A (c : Dev nD) (t : Fin cfg0.N) (acc) (h0 : t.val % 32 = 0) (h1 : ¬t.val % 32 = 31) (y : S4x512x128.Idx) :
    (stAt0 m c t.val t.isLt acc).2.2.2 y
      = newAcc (iblk m c 0 t) (iblk m c 1 t) (iblk m c 2 t) (Ideal.ofBits .f32 0xFF800000#32) 0 (y 0) (y 1) (y 2) := by
  suffices ∀ R, R = newAcc (iblk m c 0 t) (iblk m c 1 t) (iblk m c 2 t) (Ideal.ofBits .f32 0xFF800000#32) 0 (y 0) (y 1) (y 2)
      → (stAt0 m c t.val t.isLt acc).2.2.2 y = R from this _ rfl
  intro R hR
  rw [stAt0_A m c t acc h0 h1]
  dsimp only
  frame_open
  simp (disch := decide) only [↓ View.readCov_skip, ↓ View.readCov_cons_toLoadRect, ↓ View.readCov_fill]
  frame_out
  clear h0 h1
  refine (Pieces.canon_four _ _ _ _ _ _ (View.cover_of_tiled_head _ _ _ (by rfl) _)).trans ?_
  canon_tiles x h
  all_goals (subst hR; open_payloads; pointwise [newTop, newSum, newAcc, score]; blk_point [])

end Cert.AttnIdeal.Step

end
-- ==== Proof.AttnMiddle.lean ====
/- The flash attention: what the body leaves in its buffers at a middle grid point of a run. -/
module

public import proofs.«01_k».proof.Proof.AttnBlock
public import Idealize.ShloMosaic.Lib.Pipeline.ValueKit
public import proofs.«01_k».proof.Proof.Pieces
public import Idealize.ShloMosaic.Lib.Pointwise

@[expose] public section

set_option maxRecDepth 16384

noncomputable section

open Idealize.ShloMosaic Idealize.ShloMosaic.TcCoe Idealize.SL.Sem

namespace Cert.AttnIdeal.Step

open Cert.AttnIdeal Cert.AttnIdeal.Gen Cert.AttnIdeal.Value

variable (m : (ℓ : Loc nD τ sig) → Buf (Elt Ideal) ℓ)

set_option maxHeartbeats 1600000 in
/-- At a middle point of a run the first scratch is left holding the new maxima, on every lane. -/
theorem top_B (c : Dev nD) (t : Fin cfg0.N) (acc) (h0 : ¬t.val % 32 = 0) (h1 : ¬t.val % 32 = 31) (y : S4x512x128.Idx) :
    (stAt0 m c t.val t.isLt acc).2.1 y
      = newTop (iblk m c 0 t) (iblk m c 1 t) (acc.2.1 (ix3 (y 0) (y 1) 0)) (y 0) (y 1) := by
  suffices ∀ R, R = newTop (iblk m c 0 t) (iblk m c 1 t) (acc.2.1 (ix3 (y 0) (y 1) 0)) (y 0) (y 1)
      → (stAt0 m c t.val t.isLt acc).2.1 y = R from this _ rfl
  intro R hR
  rw [stAt0_B m c t acc h0 h1]
  dsimp only
  frame_out
  clear h0 h1
  canon_tiles x h
  all_goals (simp only [(Memref.isWhole_whole _).read_unread]; subst hR; open_payloads; pointwise [newTop, newSum, newAcc, score]; blk_point [])

set_option maxHeartbeats 1600000 in
/-- At a middle point of a run the second scratch is left holding the new sums, on every lane. -/
theorem sum_B (c : Dev nD) (t : Fin cfg0.N) (acc) (h0 : ¬t.val % 32 = 0) (h1 : ¬t.val % 32 = 31) (y : S4x512x128.Idx) :
    (stAt0 m c t.val t.isLt acc).2.2.1 y
      = newSum (iblk m c 0 t) (iblk m c 1 t) (acc.2.1 (ix3 (y 0) (y 1) 0)) (acc.2.2.1 (ix3 (y 0) (y 1) 0)) (y 0) (y 1) := by
  suffices ∀ R, R = newSum (iblk m c 0 t) (iblk m c 1 t) (acc.2.1 (ix3 (y 0) (y 1) 0)) (acc.2.2.1 (ix3 (y 0) (y 1) 0)) (y 0) (y 1)
      → (stAt0 m c t.val t.isLt acc).2.2.1 y = R from this _ rfl
  intro R hR
  rw [stAt0_B m c t acc h0 h1]
  dsimp only
  frame_out
  clear h0 h1
  canon_tiles x h
  all_goals (simp only [(Memref.isWhole_whole _).read_unread]; subst hR; open_payloads; pointwise [newTop, newSum, newAcc, score]; blk_point [])

set_option maxHeartbeats 1600000 in
/-- At a middle point of a run the third scratch is left holding the new weighted sums. -/
theorem acc_B (c : Dev nD) (t : Fin cfg0.N) (acc) (h0 : ¬t.val % 32 = 0) (h1 : ¬t.val % 32 = 31) (y : S4x512x128.Idx) :
    (stAt0 m c t.val t.isLt acc).2.2.2 y
      = newAcc (iblk m c 0 t) (iblk m c 1 t) (iblk m c 2 t) (acc.2.1 (ix3 (y 0) (y 1) 0)) (acc.2.2.2 (ix3 (y 0) (y 1) (y 2))) (y 0) (y 1) (y 2) := by
  suffices ∀ R, R = newAcc (iblk m c 0 t) (iblk m c 1 t) (iblk m c 2 t) (acc.2.1 (ix3 (y 0) (y 1) 0)) (acc.2.2.2 (ix3 (y 0) (y 1) (y 2))) (y 0) (y 1) (y 2)
      → (stAt0 m c t.val t.isLt acc).2.2.2 y = R from this _ rfl
  intro R hR
  rw [stAt0_B m c t acc h0 h1]
  dsimp only
  frame_out
  clear h0 h1
  canon_tiles x h
  all_goals (simp only [(Memref.isWhole_whole _).read_unread]; subst hR; open_payloads; pointwise [newTop, newSum, newAcc, score]; blk_point [])

end Cert.AttnIdeal.Step

end
-- ==== Proof.AttnLast.lean ====
/- The flash attention: what the body leaves in its buffers at a last grid point of a run. -/
module

public import proofs.«01_k».proof.Proof.AttnBlock
public import Idealize.ShloMosaic.Lib.Pipeline.ValueKit
public import proofs.«01_k».proof.Proof.Pieces
public import Idealize.ShloMosaic.Lib.Pointwise

@[expose] public section

set_option maxRecDepth 16384

noncomputable section

open Idealize.ShloMosaic Idealize.ShloMosaic.TcCoe Idealize.SL.Sem

namespace Cert.AttnIdeal.Step

open Cert.AttnIdeal Cert.AttnIdeal.Gen Cert.AttnIdeal.Value Cert.AttnSpec

variable (m : (ℓ : Loc nD τ sig) → Buf (Elt Ideal) ℓ)

set_option maxHeartbeats 1600000 in
/-- At a last point of a run the first scratch is left holding the new maxima, on every lane. -/
theorem top_C (c : Dev nD) (t : Fin cfg0.N) (acc) (h0 : ¬t.val % 32 = 0) (h1 : t.val % 32 = 31) (y : S4x512x128.Idx) :
    (stAt0 m c t.val t.isLt acc).2.1 y
      = newTop (iblk m c 0 t) (iblk m c 1 t) (acc.2.1 (ix3 (y 0) (y 1) 0)) (y 0) (y 1) := by
  suffices ∀ R, R = newTop (iblk m c 0 t) (iblk m c 1 t) (acc.2.1 (ix3 (y 0) (y 1) 0)) (y 0) (y 1)
      → (stAt0 m c t.val t.isLt acc).2.1 y = R from this _ rfl
  intro R hR
  rw [stAt0_C m c t acc h0 h1]
  dsimp only
  frame_open
  simp (disch := decide) only [↓ View.readCov_skip, ↓ View.readCov_cons_toLoadRect, ↓ View.readCov_fill]
  frame_out
  clear h0 h1
  canon_tiles x h
  all_goals (simp only [(Memref.isWhole_whole _).read_unread]; subst hR; open_payloads; pointwise [newTop, newSum, newAcc, score]; blk_point [])

set_option maxHeartbeats 1600000 in
/-- At a last point of a run the second scratch is left holding the new sums, on every lane. -/
theorem sum_C (c : Dev nD) (t : Fin cfg0.N) (acc) (h0 : ¬t.val % 32 = 0) (h1 : t.val % 32 = 31) (y : S4x512x128.Idx) :
    (stAt0 m c t.val t.isLt acc).2.2.1 y
      = newSum (iblk m c 0 t) (iblk m c 1 t) (acc.2.1 (ix3 (y 0) (y 1) 0)) (acc.2.2.1 (ix3 (y 0) (y 1) 0)) (y 0) (y 1) := by
  suffices ∀ R, R = newSum (iblk m c 0 t) (iblk m c 1 t) (acc.2.1 (ix3 (y 0) (y 1) 0)) (acc.2.2.1 (ix3 (y 0) (y 1) 0)) (y 0) (y 1)
      → (stAt0 m c t.val t.isLt acc).2.2.1 y = R from this _ rfl
  intro R hR
  rw [stAt0_C m c t acc h0 h1]
  dsimp only
  frame_open
  simp (disch := decide) only [↓ View.readCov_skip, ↓ View.readCov_cons_toLoadRect, ↓ View.readCov_fill]
  frame_out
  clear h0 h1
  canon_tiles x h
  all_goals (simp only [(Memref.isWhole_whole _).read_unread]; subst hR; open_payloads; pointwise [newTop, newSum, newAcc, score]; blk_point [])

set_option maxHeartbeats 1600000 in
/-- At a last point of a run the third scratch is left holding the new weighted sums. -/
theorem acc_C (c : Dev nD) (t : Fin cfg0.N) (acc) (h0 : ¬t.val % 32 = 0) (h1 : t.val % 32 = 31) (y : S4x512x128.Idx) :
    (stAt0 m c t.val t.isLt acc).2.2.2 y
      = newAcc (iblk m c 0 t) (iblk m c 1 t) (iblk m c 2 t) (acc.2.1 (ix3 (y 0) (y 1) 0)) (acc.2.2.2 (ix3 (y 0) (y 1) (y 2))) (y 0) (y 1) (y 2) := by
  suffices ∀ R, R = newAcc (iblk m c 0 t) (iblk m c 1 t) (iblk m c 2 t) (acc.2.1 (ix3 (y 0) (y 1) 0)) (acc.2.2.2 (ix3 (y 0) (y 1) (y 2))) (y 0) (y 1) (y 2)
      → (stAt0 m c t.val t.isLt acc).2.2.2 y = R from this _ rfl
  intro R hR
  rw [stAt0_C m c t acc h0 h1]
  dsimp only
  frame_open
  simp (disch := decide) only [↓ View.readCov_skip, ↓ View.readCov_cons_toLoadRect, ↓ View.readCov_fill]
  frame_out
  clear h0 h1
  canon_tiles x h
  all_goals (simp only [(Memref.isWhole_whole _).read_unread]; subst hR; open_payloads; pointwise [newTop, newSum, newAcc, score]; blk_point [])

set_option maxHeartbeats 1600000 in
/-- At a last point of a run the output block is left holding the normalised rows of the four heads, side by side. -/
theorem out_C (c : Dev nD) (t : Fin cfg0.N) (acc) (h0 : ¬t.val % 32 = 0) (h1 : t.val % 32 = 31) (y : S512x512.Idx) :
    (stAt0 m c t.val t.isLt acc).1 y
      = normed (attended (iblk m c 0 t) (iblk m c 1 t) (iblk m c 2 t) acc.2.1 acc.2.2.1 acc.2.2.2 ⟨(y 1 : ℕ) / 128, by idx_bounds; omega⟩ (y 0))
          (fun d => (show FVec Ideal S1x128 .f32 from iblk m c 3 t) (ix2 0 d)) ⟨(y 1 : ℕ) % 128, by omega⟩ := by
  suffices ∀ R, R = normed (attended (iblk m c 0 t) (iblk m c 1 t) (iblk m c 2 t) acc.2.1 acc.2.2.1 acc.2.2.2 ⟨(y 1 : ℕ) / 128, by idx_bounds; omega⟩ (y 0))
          (fun d => (show FVec Ideal S1x128 .f32 from iblk m c 3 t) (ix2 0 d)) ⟨(y 1 : ℕ) % 128, by omega⟩
      → (stAt0 m c t.val t.isLt acc).1 y = R from this _ rfl
  intro R hR
  rw [stAt0_C m c t acc h0 h1]
  dsimp only
  frame_open
  simp (disch := decide) only [↓ View.readCov_skip, ↓ View.readCov_cons_toLoadRect, ↓ View.readCov_fill]
  frame_out
  clear h0 h1
  canon_tiles x h
  all_goals (simp only [(Memref.isWhole_whole _).read_unread]; subst hR; open_payloads; pointwise [normed, attended, newTop, newSum, newAcc, score]; blk_point [])

end Cert.AttnIdeal.Step

end
-- ==== Proof.AttnKeys.lean ====
/- The flash attention: which rows and columns of the arrays a grid point's blocks are. -/
module

public import proofs.«01_k».proof.Proof.AttnBlock
public import proofs.«01_k».proof.Proof.AttnSpec

@[expose] public section

set_option maxRecDepth 16384

noncomputable section

open Idealize.ShloMosaic Idealize.ShloMosaic.TcCoe Idealize.SL.Sem

namespace Cert.AttnIdeal.Step

open Cert.AttnIdeal Cert.AttnIdeal.Gen Cert.AttnIdeal.Value Cert.AttnSpec

variable (m : (ℓ : Loc nD τ sig) → Buf (Elt Ideal) ℓ)

/-- The block each window stages at a grid point. -/
theorem idx : ∀ t : Fin cfg0.N, win0_0.index t = ![t.val / 32 % 32, t.val / 1024] ∧ win0_1.index t = ![t.val % 32, t.val / 1024]
    ∧ win0_2.index t = ![t.val % 32, t.val / 1024] ∧ win0_3.index t = ![0, 0] :=
  (by decide +kernel : ∀ t : Fin grid0.N, _)

/-- The query row of the array that row `r` of run `i`'s block is. -/
def rowOf (i : ℕ) (r : Fin 512) : Fin 16384 := ⟨i % 32 * 512 + r.val, by omega⟩

/-- The head of the array that head `h` of run `i`'s block is. -/
def headOf (i : ℕ) (h : Fin 4) : Fin 8 := ⟨i / 32 % 2 * 4 + h.val, by omega⟩

/-- The key row of the array that row `k` of block `a` is. -/
def keyOf (a : ℕ) (k : Fin 512) : Fin 16384 := ⟨(a * 512 + k.val) % 16384, by omega⟩

/-- The scores of run `i`, block by block. -/
def runScore (c : Dev nD) (i : ℕ) (h : Fin 4) (r : Fin 512) (a : ℕ) (k : Fin 512) : EReal :=
  scoreAt (m ((c.tc : Thread nD τ).loc main_arg0)) (m ((c.tc : Thread nD τ).loc main_arg1)) (rowOf i r) (headOf i h) (keyOf a k)

/-- The values of run `i`, block by block, in column `d`. -/
def runValue (c : Dev nD) (i : ℕ) (d : Fin 128) (a : ℕ) (k : Fin 512) : EReal :=
  (show FVec Ideal S16384x256 .bf16 from m ((c.tc : Thread nD τ).loc main_arg2)) (ix2 (keyOf a k) ⟨i / 32 % 2 * 128 + d.val, by omega⟩)

/-- The scores of a grid point's blocks are the run's. -/
theorem score_block (c : Dev nD) (t : Fin cfg0.N) (h : Fin 4) (r k : Fin 512) :
    score (iblk m c 0 t) (iblk m c 1 t) h r k = runScore m c (t.val / 32) h r (t.val % 32) k := by
  have ht : t.val < 2048 := t.isLt
  refine Ideal.mul_congr (Finset.sum_congr rfl fun e _ => Ideal.mul_congr ?_ ?_) rfl
  · blk_ext [iblk, V, idx t, rowOf, headOf]
  · blk_ext [iblk, V, idx t, keyOf, headOf]

/-- The values of a grid point's block are the run's. -/
theorem value_block (c : Dev nD) (t : Fin cfg0.N) (k : Fin 512) (d : Fin 128) :
    (show FVec Ideal S512x128 .bf16 from iblk m c 2 t) (ix2 k d) = runValue m c (t.val / 32) d (t.val % 32) k := by
  have ht : t.val < 2048 := t.isLt
  unfold runValue
  blk_ext [iblk, V, idx t, keyOf]

end Cert.AttnIdeal.Step

end
-- ==== Proof.AttnCarry.lean ====
/- The flash attention, carried over the blocks of keys: at every grid point the three scratches hold the maximum, the sum and
   the weighted sums of the keys of the run so far. -/
module

public import proofs.«01_k».proof.Proof.AttnFirst
public import proofs.«01_k».proof.Proof.AttnMiddle
public import proofs.«01_k».proof.Proof.AttnLast
public import proofs.«01_k».proof.Proof.AttnKeys

@[expose] public section

set_option maxRecDepth 16384

noncomputable section

open Idealize.ShloMosaic Idealize.ShloMosaic.TcCoe Idealize.SL.Sem

namespace Cert.AttnIdeal.Step

open Cert.AttnIdeal Cert.AttnIdeal.Gen Cert.AttnIdeal.Value Cert.AttnSpec

variable (m : (ℓ : Loc nD τ sig) → Buf (Elt Ideal) ℓ)

/-- The new maximum at a grid point. -/
theorem newTop_block (c : Dev nD) (t : Fin cfg0.N) (h : Fin 4) (r : Fin 512) (M : EReal) :
    newTop (iblk m c 0 t) (iblk m c 1 t) M h r = max M (Finset.univ.sup (runScore m c (t.val / 32) h r (t.val % 32))) := by
  rw [newTop, ofBits_neg_inf, fold_max]
  exact congrArg (fun s => max M (Finset.univ.sup s)) (funext fun k => score_block m c t h r k)

/-- The new sum at a grid point. -/
theorem newSum_block (c : Dev nD) (t : Fin cfg0.N) (h : Fin 4) (r : Fin 512) (M L : EReal) :
    newSum (iblk m c 0 t) (iblk m c 1 t) M L h r
      = Ideal.exp (M - newTop (iblk m c 0 t) (iblk m c 1 t) M h r) * L
        + ∑ k : Fin 512, Ideal.exp (runScore m c (t.val / 32) h r (t.val % 32) k - newTop (iblk m c 0 t) (iblk m c 1 t) M h r) * 1 := by
  rw [newSum]
  refine congrArg _ (Finset.sum_congr rfl fun k _ => ?_)
  rw [score_block, mul_one]

/-- The new weighted sum at a grid point. -/
theorem newAcc_block (c : Dev nD) (t : Fin cfg0.N) (h : Fin 4) (r : Fin 512) (d : Fin 128) (M A : EReal) :
    newAcc (iblk m c 0 t) (iblk m c 1 t) (iblk m c 2 t) M A h r d
      = Ideal.exp (M - newTop (iblk m c 0 t) (iblk m c 1 t) M h r) * A
        + ∑ k : Fin 512, Ideal.exp (runScore m c (t.val / 32) h r (t.val % 32) k - newTop (iblk m c 0 t) (iblk m c 1 t) M h r)
            * runValue m c (t.val / 32) d (t.val % 32) k := by
  rw [newAcc]
  refine congrArg _ (Finset.sum_congr rfl fun k _ => ?_)
  rw [score_block]
  exact congrArg _ (value_block m c t k d)

/-- What the three scratches hold after block `j` of run `i`. -/
def Holds (c : Dev nD) (i j : ℕ) (b : Vec Ideal S512x512 .bf16 × Vec Ideal S4x512x128 .f32 × Vec Ideal S4x512x128 .f32 × Vec Ideal S4x512x128 .f32) :
    Prop :=
  ∀ (h : Fin 4) (r : Fin 512) (d : Fin 128),
    b.2.1 (ix3 h r d) = Online.top (runScore m c i h r) j
    ∧ b.2.2.1 (ix3 h r d) = Online.mass (runScore m c i h r) (fun _ _ => 1) (Online.top (runScore m c i h r) j) j
    ∧ b.2.2.2 (ix3 h r d) = Online.mass (runScore m c i h r) (runValue m c i d) (Online.top (runScore m c i h r) j) j

/-- A first block leaves the three of its own keys. -/
theorem holds_first (c : Dev nD) (t : Fin cfg0.N) (acc) (h0 : t.val % 32 = 0) :
    Holds m c (t.val / 32) (t.val % 32) (stAt0 m c t.val t.isLt acc) := by
  intro h r d
  have h1 : ¬ t.val % 32 = 31 := by omega
  have e : newTop (iblk m c 0 t) (iblk m c 1 t) (Ideal.ofBits .f32 0xFF800000#32) h r = Online.top (runScore m c (t.val / 32) h r) 0 := by
    rw [newTop_block, ofBits_neg_inf, Online.top_zero, h0]
  have eS : newSum (iblk m c 0 t) (iblk m c 1 t) (Ideal.ofBits .f32 0xFF800000#32) 0 h r
      = Online.mass (runScore m c (t.val / 32) h r) (fun _ _ => 1) (Online.top (runScore m c (t.val / 32) h r) (t.val % 32)) (t.val % 32) := by
    rw [newSum_block, e, h0]
    exact (Online.mass_zero _ (fun _ _ => 1) _ _).symm
  have eA : newAcc (iblk m c 0 t) (iblk m c 1 t) (iblk m c 2 t) (Ideal.ofBits .f32 0xFF800000#32) 0 h r d
      = Online.mass (runScore m c (t.val / 32) h r) (runValue m c (t.val / 32) d) (Online.top (runScore m c (t.val / 32) h r) (t.val % 32)) (t.val % 32) := by
    rw [newAcc_block, e, h0]
    exact (Online.mass_zero _ _ _ _).symm
  exact ⟨(top_A m c t acc h0 h1 (ix3 h r d)).trans (e.trans (by rw [h0])), (sum_A m c t acc h0 h1 (ix3 h r d)).trans eS,
    (acc_A m c t acc h0 h1 (ix3 h r d)).trans eA⟩

/-- A later block adds its keys to the three. -/
theorem holds_next (c : Dev nD) (t : Fin cfg0.N) (acc) (j : ℕ) (hj : t.val % 32 = j + 1) (H : Holds m c (t.val / 32) j acc) :
    Holds m c (t.val / 32) (t.val % 32) (stAt0 m c t.val t.isLt acc) := by
  intro h r d
  have h0 : ¬ t.val % 32 = 0 := by omega
  have e : newTop (iblk m c 0 t) (iblk m c 1 t) (acc.2.1 (ix3 h r 0)) h r = Online.top (runScore m c (t.val / 32) h r) (j + 1) := by
    rw [newTop_block, (H h r 0).1, Online.top_succ, hj]
  have eS : newSum (iblk m c 0 t) (iblk m c 1 t) (acc.2.1 (ix3 h r 0)) (acc.2.2.1 (ix3 h r 0)) h r
      = Online.mass (runScore m c (t.val / 32) h r) (fun _ _ => 1) (Online.top (runScore m c (t.val / 32) h r) (t.val % 32)) (t.val % 32) := by
    rw [newSum_block, e, hj, (H h r 0).1, (H h r 0).2.1]
    exact (Online.mass_succ _ _ _).symm
  have eA : newAcc (iblk m c 0 t) (iblk m c 1 t) (iblk m c 2 t) (acc.2.1 (ix3 h r 0)) (acc.2.2.2 (ix3 h r d)) h r d
      = Online.mass (runScore m c (t.val / 32) h r) (runValue m c (t.val / 32) d) (Online.top (runScore m c (t.val / 32) h r) (t.val % 32)) (t.val % 32) := by
    rw [newAcc_block, e, hj, (H h r 0).1, (H h r d).2.2]
    exact (Online.mass_succ _ _ _).symm
  rw [← hj] at e
  by_cases h1 : t.val % 32 = 31
  · exact ⟨(top_C m c t acc h0 h1 (ix3 h r d)).trans e, (sum_C m c t acc h0 h1 (ix3 h r d)).trans eS,
      (acc_C m c t acc h0 h1 (ix3 h r d)).trans eA⟩
  · exact ⟨(top_B m c t acc h0 h1 (ix3 h r d)).trans e, (sum_B m c t acc h0 h1 (ix3 h r d)).trans eS,
      (acc_B m c t acc h0 h1 (ix3 h r d)).trans eA⟩

/-- At every grid point the three scratches hold what the keys of the run so far make. -/
theorem carried (c : Dev nD) : ∀ (n : ℕ) (hn : n < cfg0.N), Holds m c (n / 32) (n % 32) (outsAt0 m c n hn)
  | 0, hn => by
    rw [outsAt0_zero]
    exact holds_first m c ⟨0, hn⟩ _ rfl
  | n + 1, hn => by
    rw [outsAt0_succ]
    by_cases h0 : (n + 1) % 32 = 0
    · exact holds_first m c ⟨n + 1, hn⟩ _ h0
    · refine holds_next m c ⟨n + 1, hn⟩ _ (n % 32) (by dsimp only; omega) ?_
      have e : (n + 1) / 32 = n / 32 := by omega
      dsimp only
      rw [e]
      exact carried c n _

/-- One row of one head after the last block of a run, from the scratches the block before left: the sums over all its keys. -/
theorem attended_last (c : Dev nD) (t : Fin cfg0.N) (acc) (h1 : t.val % 32 = 31) (H : Holds m c (t.val / 32) 30 acc) (h : Fin 4)
    (r : Fin 512) (d : Fin 128) :
    attended (iblk m c 0 t) (iblk m c 1 t) (iblk m c 2 t) acc.2.1 acc.2.2.1 acc.2.2.2 h r d
      = Ideal.div (Online.mass (runScore m c (t.val / 32) h r) (runValue m c (t.val / 32) d) (Online.top (runScore m c (t.val / 32) h r) 31) 31)
          (Online.mass (runScore m c (t.val / 32) h r) (fun _ _ => 1) (Online.top (runScore m c (t.val / 32) h r) 31) 31) := by
  have e : newTop (iblk m c 0 t) (iblk m c 1 t) (acc.2.1 (ix3 h r 0)) h r = Online.top (runScore m c (t.val / 32) h r) 31 := by
    rw [newTop_block, (H h r 0).1, h1]
    exact (Online.top_succ _ 30).symm
  refine congrArg₂ Ideal.div ?_ ?_
  · rw [newAcc_block, e, h1, (H h r 0).1, (H h r d).2.2]
    exact (Online.mass_succ _ _ _).symm
  · rw [newSum_block, e, h1, (H h r 0).1, (H h r 0).2.1]
    exact (Online.mass_succ _ _ _).symm

end Cert.AttnIdeal.Step

end
-- ==== Proof.AttnArray.lean ====
/- The flash attention's output array: at every index the normalised row of the whole softmax, divided after the sum. -/
module

public import proofs.«01_k».proof.Proof.AttnCarry

@[expose] public section

set_option maxRecDepth 16384

noncomputable section

open Idealize.ShloMosaic Idealize.ShloMosaic.TcCoe Idealize.SL.Sem

namespace Cert.AttnIdeal.Step

open Cert.AttnIdeal Cert.AttnIdeal.Gen Cert.AttnIdeal.Value Cert.AttnSpec

variable (m : (ℓ : Loc nD τ sig) → Buf (Elt Ideal) ℓ)

/-- A block's key row, for a block that is there. -/
theorem keyOf_eq (a : Fin 32) (k : Fin 512) : keyOf a.val k = ⟨a.val * 512 + k.val, by omega⟩ := Fin.ext (by show (a.val * 512 + k.val) % 16384 = a.val * 512 + k.val; omega)

/-- Every key row is in one of the 32 blocks. -/
theorem exists_keyOf (x : Fin 16384) : ∃ a, a < 32 ∧ ∃ k : Fin 512, keyOf a k = x :=
  ⟨x.val / 512, by omega, ⟨x.val % 512, by omega⟩, Fin.ext (by show (x.val / 512 * 512 + x.val % 512) % 16384 = x.val; omega)⟩

/-- The largest over the 32 blocks is the largest of all. -/
theorem top_all (s : Fin 16384 → EReal) : Online.top (fun a k => s (keyOf a k)) 31 = Finset.univ.sup s := by
  refine le_antisymm (Finset.sup_le fun a _ => Finset.sup_le fun k _ => Finset.le_sup (f := s) (Finset.mem_univ _)) (Finset.sup_le fun x _ => ?_)
  obtain ⟨a, ha, k, rfl⟩ := exists_keyOf x
  exact Online.le_top (S := fun a k => s (keyOf a k)) (by omega) k

/-- A sum over the 32 blocks is the sum over all keys. -/
theorem mass_all (s v : Fin 16384 → EReal) (M : EReal) :
    Online.mass (fun a k => s (keyOf a k)) (fun a k => v (keyOf a k)) M 31 = ∑ k, Ideal.exp (s k - M) * v k := by
  rw [Online.mass, Finset.sum_range, Fin.sum_univ_tiles 32 512 rfl]
  exact Finset.sum_congr rfl fun a _ => Finset.sum_congr rfl fun k _ => by rw [keyOf_eq]

/-- The quotient a run ends with is the late form over all keys. -/
theorem quotient_all (s v : Fin 16384 → EReal) :
    Ideal.div (Online.mass (fun a k => s (keyOf a k)) (fun a k => v (keyOf a k)) (Online.top (fun a k => s (keyOf a k)) 31) 31)
      (Online.mass (fun a k => s (keyOf a k)) (fun _ _ => 1) (Online.top (fun a k => s (keyOf a k)) 31) 31) = late s v := by
  rw [top_all, mass_all, late, total]
  refine congrArg _ ((mass_all s (fun _ => 1) _).trans (Finset.sum_congr rfl fun k _ => mul_one _))

/-- The norm's weights, staged whole at every point. -/
theorem weights_block (c : Dev nD) (t : Fin cfg0.N) (d : Fin 128) :
    (show FVec Ideal S1x128 .f32 from iblk m c 3 t) (ix2 0 d)
      = (show FVec Ideal S1x128 .f32 from m ((c.tc : Thread nD τ).loc main_arg3)) (ix2 0 d) := by
  blk_ext [iblk, V, idx t]

/-- One row of one head after the last block of a run: the late form over all keys. -/
theorem attended_all (c : Dev nD) (t : Fin cfg0.N) (acc) (h1 : t.val % 32 = 31) (H : Holds m c (t.val / 32) 30 acc) (r : Fin 512)
    (R : Fin 16384) (g : Fin 2) (p : Fin 4) (d : Fin 128) (hR : t.val / 32 % 32 * 512 + r.val = R.val) (hg : t.val / 1024 = g.val) :
    attended (iblk m c 0 t) (iblk m c 1 t) (iblk m c 2 t) acc.2.1 acc.2.2.1 acc.2.2.2 p r d
      = late (scoreAt (m ((c.tc : Thread nD τ).loc main_arg0)) (m ((c.tc : Thread nD τ).loc main_arg1)) R ⟨g.val * 4 + p.val, by omega⟩)
            (fun k => (show FVec Ideal S16384x256 .bf16 from m ((c.tc : Thread nD τ).loc main_arg2)) (ix2 k ⟨g.val * 128 + d.val, by omega⟩)) := by
  have e0 : rowOf (t.val / 32) r = R := Fin.ext hR
  have e1 : headOf (t.val / 32) p = ⟨g.val * 4 + p.val, by omega⟩ :=
    Fin.ext (by show t.val / 32 / 32 % 2 * 4 + p.val = g.val * 4 + p.val; omega)
  have e3 : (⟨t.val / 32 / 32 % 2 * 128 + d.val, by omega⟩ : Fin 256) = ⟨g.val * 128 + d.val, by omega⟩ :=
    Fin.ext (by show t.val / 32 / 32 % 2 * 128 + d.val = g.val * 128 + d.val; omega)
  have eS : runScore m c (t.val / 32) p r = fun a k => scoreAt (m ((c.tc : Thread nD τ).loc main_arg0))
      (m ((c.tc : Thread nD τ).loc main_arg1)) R ⟨g.val * 4 + p.val, by omega⟩ (keyOf a k) := by
    funext a k; rw [runScore, e0, e1]
  have eV : runValue m c (t.val / 32) d = fun a k => (show FVec Ideal S16384x256 .bf16 from m ((c.tc : Thread nD τ).loc main_arg2))
      (ix2 (keyOf a k) ⟨g.val * 128 + d.val, by omega⟩) := by
    funext a k; rw [runValue, e3]
  rw [attended_last m c t acc h1 H, eS, eV]
  exact quotient_all (scoreAt (m ((c.tc : Thread nD τ).loc main_arg0)) (m ((c.tc : Thread nD τ).loc main_arg1)) R ⟨g.val * 4 + p.val, by omega⟩)
    (fun k => (show FVec Ideal S16384x256 .bf16 from m ((c.tc : Thread nD τ).loc main_arg2)) (ix2 k ⟨g.val * 128 + d.val, by omega⟩))

/-- What the last point of a run leaves in the output block, at the array's row `R`, head `g * 4 + p` and column `d` of the head. -/
theorem out_last (c : Dev nD) (t : Fin cfg0.N) (acc) (h31 : t.val % 32 = 31) (H : Holds m c (t.val / 32) 30 acc) (y : S512x512.Idx)
    (R : Fin 16384) (g : Fin 2) (p : Fin 4) (d : Fin 128)
    (h0 : t.val / 32 % 32 * 512 + (y 0).val = R.val) (h1 : (y 1).val = p.val * 128 + d.val) (hg : t.val / 1024 = g.val) :
    (stAt0 m c t.val t.isLt acc).1 y
      = normed (fun d => late (scoreAt (m ((c.tc : Thread nD τ).loc main_arg0)) (m ((c.tc : Thread nD τ).loc main_arg1)) R ⟨g.val * 4 + p.val, by omega⟩)
            (fun k => (show FVec Ideal S16384x256 .bf16 from m ((c.tc : Thread nD τ).loc main_arg2)) (ix2 k ⟨g.val * 128 + d.val, by omega⟩)))
          (fun d => (show FVec Ideal S1x128 .f32 from m ((c.tc : Thread nD τ).loc main_arg3)) (ix2 0 d)) d := by
  have key : ∀ (h : Fin 4) (r : Fin 512) (e : Fin 128), h = p → e = d → t.val / 32 % 32 * 512 + r.val = R.val →
      normed (attended (iblk m c 0 t) (iblk m c 1 t) (iblk m c 2 t) acc.2.1 acc.2.2.1 acc.2.2.2 h r)
          (fun d => (show FVec Ideal S1x128 .f32 from iblk m c 3 t) (ix2 0 d)) e
        = normed (fun d => late (scoreAt (m ((c.tc : Thread nD τ).loc main_arg0)) (m ((c.tc : Thread nD τ).loc main_arg1)) R ⟨g.val * 4 + p.val, by omega⟩)
            (fun k => (show FVec Ideal S16384x256 .bf16 from m ((c.tc : Thread nD τ).loc main_arg2)) (ix2 k ⟨g.val * 128 + d.val, by omega⟩)))
          (fun d => (show FVec Ideal S1x128 .f32 from m ((c.tc : Thread nD τ).loc main_arg3)) (ix2 0 d)) d := by
    rintro h r e rfl rfl hr
    exact congrArg₂ (fun o g => normed o g e) (funext fun d => attended_all m c t acc h31 H r R g h d hr hg)
      (funext fun d => weights_block m c t d)
  refine (out_C m c t acc (by omega) h31 y).trans (key _ _ _ (Fin.ext ?_) (Fin.ext ?_) h0)
  · show (y 1).val / 128 = p.val
    omega
  · show (y 1).val % 128 = d.val
    omega

/-- The same, at the run's number. -/
theorem out_end (c : Dev nD) (i : ℕ) (hi : 32 * i + 31 < cfg0.N) (y : S512x512.Idx) (R : Fin 16384) (g : Fin 2) (p : Fin 4) (d : Fin 128)
    (h0 : i % 32 * 512 + (y 0).val = R.val) (h1 : (y 1).val = p.val * 128 + d.val) (hg : i / 32 = g.val) :
    (outsAt0 m c (32 * i + 31) hi).1 y
      = normed (fun d => late (scoreAt (m ((c.tc : Thread nD τ).loc main_arg0)) (m ((c.tc : Thread nD τ).loc main_arg1)) R ⟨g.val * 4 + p.val, by omega⟩)
            (fun k => (show FVec Ideal S16384x256 .bf16 from m ((c.tc : Thread nD τ).loc main_arg2)) (ix2 k ⟨g.val * 128 + d.val, by omega⟩)))
          (fun d => (show FVec Ideal S1x128 .f32 from m ((c.tc : Thread nD τ).loc main_arg3)) (ix2 0 d)) d := by
  have H := carried m c (32 * i + 30) (by omega)
  rw [show (32 * i + 30) % 32 = 30 by omega, show (32 * i + 30) / 32 = (32 * i + 31) / 32 by omega] at H
  exact out_last m c ⟨32 * i + 31, hi⟩ (outsAt0 m c (32 * i + 30) (by omega)) (by dsimp only; omega) H y R g p d
    (by dsimp only; omega) h1 (by dsimp only; omega)

/-- The output array at an index is the last point of its run, at its place in the block. -/
theorem array_eq (c : Dev nD) (i : S16384x1024.Idx) (n : ℕ) (h : run4Of i = n) (hn : 32 * n + 31 < cfg0.N) :
    G4 m c i = (outsAt0 m c (32 * n + 31) hn).1 (loc4Of i) := by
  subst h
  rw [outsAt0_sweep m c _ hn]
  unfold G4
  rw [dif_pos hn]

/-- The output array at row `R`, head `g * 4 + p`, column `d` of the head. -/
theorem array_at (c : Dev nD) (R : Fin 16384) (g : Fin 2) (p : Fin 4) (d : Fin 128) :
    G4 m c (ix2 R ⟨(g.val * 4 + p.val) * 128 + d.val, by omega⟩)
      = normed (fun d => late (scoreAt (m ((c.tc : Thread nD τ).loc main_arg0)) (m ((c.tc : Thread nD τ).loc main_arg1)) R ⟨g.val * 4 + p.val, by omega⟩)
            (fun k => (show FVec Ideal S16384x256 .bf16 from m ((c.tc : Thread nD τ).loc main_arg2)) (ix2 k ⟨g.val * 128 + d.val, by omega⟩)))
          (fun d => (show FVec Ideal S1x128 .f32 from m ((c.tc : Thread nD τ).loc main_arg3)) (ix2 0 d)) d := by
  have hN : cfg0.N = 2048 := N_0
  rw [array_eq m c _ (R.val / 512 + 32 * g.val) (by show 1 * (R.val / 512 - 0) + 32 * (((g.val * 4 + p.val) * 128 + d.val) / 512 - 0) = _; omega) (by omega)]
  exact out_end m c (R.val / 512 + 32 * g.val) _ _ R g p d (by show (R.val / 512 + 32 * g.val) % 32 * 512 + R.val % 512 = R.val; omega)
    (by show ((g.val * 4 + p.val) * 128 + d.val) % 512 = p.val * 128 + d.val; omega) (by omega)

end Cert.AttnIdeal.Step

end
-- ==== Proof.AttnRead.lean ====
/- The attention's reference, read at an index. -/
module

public import proofs.«01_k».proof.Proof.Gen.AttnRefIdeal.Read
public import proofs.«01_k».proof.Proof.AttnSpec
public import Idealize.ShloMosaic.Lib.Pointwise

@[expose] public section

set_option maxRecDepth 16384

noncomputable section

open Idealize.ShloMosaic Idealize.ShloMosaic.TcCoe Idealize.SL.Sem

namespace Cert.AttnRefIdeal.At

open Cert.AttnRefIdeal Cert.AttnRefIdeal.Gen Cert.AttnRefIdeal.Read Cert.AttnSpec

variable (Q : FVec Ideal S16384x1024 .bf16) (K V : FVec Ideal S16384x256 .bf16) (G : FVec Ideal S1x128 .f32)

/-- The scaled scores, at key-head `g`, query-head `p` of it, query row `R` and key row `k`. -/
theorem scores (g : Fin 2) (p : Fin 4) (R k : Fin 16384) :
    val_main_v9 (F := Ideal) Q K (ix4 g p R k) = scoreAt Q K R ⟨g.val * 4 + p.val, by omega⟩ k := by
  pointwise [val_main_v9, val_main_v8, val_main_cst, val_main_v7, val_main_v6, val_main_v3, val_main_v2, val_main_v1, val_main_v0, scoreAt]
  refine Ideal.mul_congr (Finset.sum_congr rfl fun e _ => (mul_comm _ _).trans (Ideal.mul_congr (congrArg Q ?_) (congrArg K ?_))) rfl
  · idx_ext
  · idx_ext

/-- The largest score of a row. -/
theorem peak (g : Fin 2) (p : Fin 4) (R : Fin 16384) :
    val_main_v12 (F := Ideal) Q K (ix3 g p R) = Finset.univ.sup fun k => scoreAt Q K R ⟨g.val * 4 + p.val, by omega⟩ k := by
  have h : val_main_v10 (F := Ideal) Q K (ix3 g p R)
      = (Finset.univ : Finset (Fin 16384)).fold max ⊥ fun k => val_main_v9 (F := Ideal) Q K (ix4 g p R k) := by
    unfold val_main_v10
    generalize val_main_v9 (F := Ideal) Q K = x
    refine (Host.reduce_eq_fold (α := EReal) max x _ reducesTo_S2x4x16384x16384_S2x4x16384_d3 h_S_ _).trans ?_
    refine (reducesTo_S2x4x16384x16384_S2x4x16384_d3.fold_fiber_r4_a3 _ max _ x).trans ?_
    rw [val_main_cst_0_apply]
    exact congrArg (fun b => (Finset.univ : Finset (Fin 16384)).fold max b fun k => x (ix4 g p R k)) ofBits_neg_inf
  rw [val_main_v12_apply, h]
  change max (Ideal.ofBits .f32 0xFF800000#32) _ = _
  rw [ofBits_neg_inf, fold_max, max_eq_right bot_le]
  exact congrArg _ (funext fun k => scores Q K g p R k)

/-- The exponential of a score, based at the largest of its row. -/
theorem weight (g : Fin 2) (p : Fin 4) (R k : Fin 16384) :
    val_main_v16 (F := Ideal) Q K (ix4 g p R k)
      = Ideal.exp (scoreAt Q K R ⟨g.val * 4 + p.val, by omega⟩ k - Finset.univ.sup fun k => scoreAt Q K R ⟨g.val * 4 + p.val, by omega⟩ k) := by
  rw [val_main_v16_apply, val_main_v15_apply, val_main_v14_apply, val_main_v13_apply, scores]
  exact congrArg (fun M => Ideal.exp (scoreAt Q K R ⟨g.val * 4 + p.val, by omega⟩ k - M))
    ((congrArg (val_main_v12 (F := Ideal) Q K) (by idx_ext)).trans (peak Q K g p R))

/-- The sum of the exponentials of a row. -/
theorem weights (g : Fin 2) (p : Fin 4) (R : Fin 16384) :
    val_main_v17 (F := Ideal) Q K (ix3 g p R) = total fun k => scoreAt Q K R ⟨g.val * 4 + p.val, by omega⟩ k := by
  rw [val_main_v17_apply, val_main_cst_2_apply]
  change Ideal.ofBits .f32 0x00000000#32 + _ = _
  rw [show Ideal.ofBits .f32 0x00000000#32 = 0 by simp [Ideal.ofBits, Ideal.ieee], zero_add]
  exact Finset.sum_congr rfl fun k _ => (congrArg (val_main_v16 (F := Ideal) Q K) (by idx_ext)).trans (weight Q K g p R k)

/-- The weighted sums before the norm. -/
theorem heads (R : Fin 16384) (g : Fin 2) (p : Fin 4) (d : Fin 128) :
    val_main_v22 (F := Ideal) Q K V (ix4 R g p d)
      = early (fun k => scoreAt Q K R ⟨g.val * 4 + p.val, by omega⟩ k) (fun k => V (ix2 k ⟨g.val * 128 + d.val, by omega⟩)) := by
  rw [val_main_v22_apply, val_main_v21_apply]
  refine Finset.sum_congr rfl fun k _ => Ideal.mul_congr ?_ ?_
  · rw [val_main_v5_apply, val_main_v4_apply]
    exact congrArg V (by idx_ext)
  · rw [val_main_v20_apply, val_main_v19_apply, val_main_v18_apply]
    exact congrArg₂ Ideal.div ((congrArg (val_main_v16 (F := Ideal) Q K) (by idx_ext)).trans (weight Q K g p R k))
      ((congrArg (val_main_v17 (F := Ideal) Q K) (by idx_ext)).trans (weights Q K g p R))

/-- The result. -/
theorem result (R : Fin 16384) (g : Fin 2) (p : Fin 4) (d : Fin 128) :
    val_main_v38 (F := Ideal) Q K V G (ix2 R ⟨(g.val * 4 + p.val) * 128 + d.val, by omega⟩)
      = normed (fun d => early (fun k => scoreAt Q K R ⟨g.val * 4 + p.val, by omega⟩ k) (fun k => V (ix2 k ⟨g.val * 128 + d.val, by omega⟩)))
          (fun d => G (ix2 0 d)) d := by
  pointwise [val_main_v38, val_main_v37, val_main_v36, val_main_v35, val_main_v34, val_main_v33, val_main_v32, val_main_v31, val_main_v30, val_main_v29, val_main_cst_5, val_main_v28, val_main_v27, val_main_cst_4, val_main_v26, val_main_v25, val_main_cst_3, val_main_v24, val_main_v23, heads, normed]

end Cert.AttnRefIdeal.At

end
-- ==== Proof.AttnEquation.lean ====
/- The attention: the kernel's output array is the reference's result of the same four arguments. -/
module

public import proofs.«01_k».proof.Proof.AttnArray
public import proofs.«01_k».proof.Proof.AttnRead

@[expose] public section

set_option maxRecDepth 16384

noncomputable section

open Idealize.ShloMosaic Idealize.ShloMosaic.TcCoe Idealize.SL.Sem

namespace Cert.AttnIdeal.Step

open Cert.AttnIdeal Cert.AttnIdeal.Gen Cert.AttnIdeal.Value Cert.AttnSpec

/-- Every index of the output is a row, a key-head, a query-head of it and a column of the head. -/
theorem exists_index (i : S16384x1024.Idx) : ∃ (R : Fin 16384) (g : Fin 2) (p : Fin 4) (d : Fin 128),
    i = ix2 R ⟨(g.val * 4 + p.val) * 128 + d.val, by omega⟩ := by
  idx_vars i
  refine ⟨i0, ⟨i1.val / 512, by omega⟩, ⟨i1.val / 128 % 4, by omega⟩, ⟨i1.val % 128, by omega⟩, (ix2_inj ..).2 ⟨rfl, Fin.ext ?_⟩⟩
  show i1.val = (i1.val / 512 * 4 + i1.val / 128 % 4) * 128 + i1.val % 128
  omega

/-- The output array is the reference's function of the arguments. -/
theorem equation (m : (ℓ : Loc nD τ sig) → Buf (Elt Ideal) ℓ) (c : Dev nD) :
    G4 m c = Cert.AttnRefIdeal.Read.val_main_v38 (F := Ideal) (m ((c.tc : Thread nD τ).loc main_arg0)) (m ((c.tc : Thread nD τ).loc main_arg1))
      (m ((c.tc : Thread nD τ).loc main_arg2)) (m ((c.tc : Thread nD τ).loc main_arg3)) := by
  funext i
  obtain ⟨R, g, p, d, rfl⟩ := exists_index i
  refine (array_at m c R g p d).trans ((normed_late _ _ _ _).trans ?_)
  exact (Cert.AttnRefIdeal.At.result _ _ _ _ R g p d).symm

end Cert.AttnIdeal.Step

end
-- ==== Proof.AttnClaim.lean ====
/- The claims about the attention. -/
module

public import proofs.«01_k».proof.Defs
public import proofs.«01_k».proof.Proof.Gen.Attn.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnEquation
public import Idealize.ShloMosaic.Adequacy
public import Idealize.ShloMosaic.Init
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem

namespace Cert.Proof.Attn

/-- The kernel of the attention runs, leaves its arguments unchanged and every semaphore at zero. -/
theorem kernel : quiescent_Attn (hAttn := Cert.Attn.Gen.facts) := fun m ρ _ => Cert.Attn.Gen.frame m ρ

/-- The same of its ideal form. -/
theorem ideal : quiescent_AttnIdeal (hAttnIdeal := Cert.AttnIdeal.Gen.facts) := fun m ρ _ => Cert.AttnIdeal.Gen.frame m ρ

/-- The reference runs, leaves its arguments unchanged and every semaphore at zero. -/
theorem reference : quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The ideal form is the kernel's own. -/
theorem preserves : preserves_Attn_AttnIdeal := trivial

/-- On equal arguments the ideal kernel and the reference end with equal results. -/
theorem algebraic : algebraic_AttnIdeal_AttnRefIdeal (hAttnIdeal := Cert.AttnIdeal.Gen.facts) (hAttnRefIdeal := Cert.AttnRefIdeal.Gen.facts) := by
  intro m ρ m' ρ' _ hagree
  refine ⟨_, Cert.AttnIdeal.Value.run (F := Ideal) m ρ, ?_⟩
  refine (θ_run Cert.AttnRefIdeal.defs _ _).mono (fun _ h c => ⟨?_, (h c).2⟩) (Cert.AttnRefIdeal.Value.run (F := Ideal) m' ρ')
  rw [(h c).1, Cert.AttnRefIdeal.Read.val_main_v38_eq, (hagree c).1, (hagree c).2.1, (hagree c).2.2.1, (hagree c).2.2.2]
  exact (Cert.AttnIdeal.Step.equation m c).symm

end Cert.Proof.Attn

end
-- ==== Proof.FfnSpec.lean ====
/- The gated feed-forward part with its norms, as plain formulas over the extended reals, and its sum over the hidden width
   in tiles. -/
module

public import Idealize.ShloMosaic.PureOps.Ideal.Laws
public import Idealize.ShloMosaic.Lib.ValueIdx
public import Idealize.ShloMosaic.Lib.Pointwise

@[expose] public section

noncomputable section

namespace Cert.FfnSpec

open Idealize.ShloMosaic

/-- The row `x`, scaled by the reciprocal root of its mean square (plus the printed epsilon), times the weights `g`. -/
def normed (x g : Fin 2048 → EReal) (e : Fin 2048) : EReal :=
  x e * Ideal.rsqrt (Ideal.div (∑ e : Fin 2048, x e * x e) (Ideal.ofBits .f32 0x45000000#32) + Ideal.ofBits .f32 0x358637BD#32) * g e

/-- The gated product of two numbers: the first times its logistic, times the second. -/
def gated (a b : EReal) : EReal := a * Ideal.logistic a * b

/-- One hidden entry: the gated product of the row `x` with a column of the gate and a column of the up-projection. -/
def hiddenAt (x wg wu : Fin 2048 → EReal) : EReal := gated (∑ e : Fin 2048, x e * wg e) (∑ e : Fin 2048, x e * wu e)

/-- The residual: half of `s`, added to `x`. -/
def halfStep (x s : EReal) : EReal := x + Ideal.ofBits .f32 0x3F000000#32 * s

/-- One row of an array or of a block of it, normalised. -/
def rowOf {n : ℕ} (X : FVec Ideal ⟨2, ![n, 2048]⟩ .f32) (G : FVec Ideal ⟨2, ![1, 2048]⟩ .f32) (R : Fin n) : Fin 2048 → EReal :=
  normed (fun e => X (ix2 R e)) (fun e => G (ix2 0 e))

/-- What hidden entry `k` adds to row `R`, column `d` of the down-projection. -/
def term {n : ℕ} (X : FVec Ideal ⟨2, ![n, 2048]⟩ .f32) (G : FVec Ideal ⟨2, ![1, 2048]⟩ .f32) (WG WU : FVec Ideal ⟨3, ![1, 2048, 5632]⟩ .f32)
    (WD : FVec Ideal ⟨3, ![1, 5632, 2048]⟩ .f32) (R : Fin n) (d : Fin 2048) (k : Fin 5632) : EReal :=
  hiddenAt (rowOf X G R) (fun e => WG (ix3 0 e k)) (fun e => WU (ix3 0 e k)) * WD (ix3 0 k d)

/-- The feed-forward half step: the input and half of its gated feed-forward. -/
def stepAt {n : ℕ} (X : FVec Ideal ⟨2, ![n, 2048]⟩ .f32) (G : FVec Ideal ⟨2, ![1, 2048]⟩ .f32) (WG WU : FVec Ideal ⟨3, ![1, 2048, 5632]⟩ .f32)
    (WD : FVec Ideal ⟨3, ![1, 5632, 2048]⟩ .f32) (R : Fin n) (d : Fin 2048) : EReal :=
  halfStep (X (ix2 R d)) (∑ k : Fin 5632, term X G WG WU WD R d k)

/-- What one tile of the hidden width adds to column `d` of an output row, from the normalised row `xn` and the tile's weights. -/
def tile (xn : Fin 2048 → EReal) (wg wu : FVec Ideal ⟨2, ![2048, 512]⟩ .bf16) (wd : FVec Ideal ⟨2, ![512, 2048]⟩ .bf16) (d : Fin 2048) : EReal :=
  ∑ k : Fin 512, hiddenAt xn (fun e => wg (ix2 e k)) (fun e => wu (ix2 e k)) * wd (ix2 k d)

/-- One entry of the half step after the last tile, from what the output block held before it. -/
def summed (x s : FVec Ideal ⟨2, ![512, 2048]⟩ .f32) (xn : FVec Ideal ⟨2, ![512, 2048]⟩ .bf16) (wg wu : FVec Ideal ⟨2, ![2048, 512]⟩ .bf16)
    (wd : FVec Ideal ⟨2, ![512, 2048]⟩ .bf16) (r : Fin 512) (d : Fin 2048) : EReal :=
  halfStep (x (ix2 r d)) (s (ix2 r d) + tile (fun e => xn (ix2 r e)) wg wu wd d)

/-- The sum over one tile of 512 entries of the hidden width. -/
def tileSum (f : Fin 5632 → EReal) (a : ℕ) : EReal := ∑ k : Fin 512, f ⟨(a * 512 + k.val) % 5632, by omega⟩

/-- The sum over the hidden width, `a` tiles of 512 entries. -/
def partialSum (f : Fin 5632 → EReal) (a : ℕ) : EReal := ∑ j ∈ Finset.range a, tileSum f j

theorem partialSum_zero (f : Fin 5632 → EReal) : partialSum f 0 = 0 := rfl

theorem partialSum_succ (f : Fin 5632 → EReal) (a : ℕ) : partialSum f (a + 1) = partialSum f a + tileSum f a := Finset.sum_range_succ _ _

/-- Eleven tiles are the whole width. -/
theorem partialSum_all (f : Fin 5632 → EReal) : partialSum f 11 = ∑ k, f k := by
  rw [partialSum, Finset.sum_range, Fin.sum_univ_tiles 11 512 rfl]
  exact Finset.sum_congr rfl fun a _ => Finset.sum_congr rfl fun k _ => congrArg f (Fin.ext (by show (a.val * 512 + k.val) % 5632 = a.val * 512 + k.val; omega))

/-- The pattern of zero. -/
theorem ofBits_zero : Ideal.ofBits .f32 0x00000000#32 = 0 := by simp [Ideal.ofBits, Ideal.ieee]

/-- The pattern of one. -/
theorem ofBits_one : Ideal.ofBits .f32 0x3F800000#32 = 1 := by
  simp [Ideal.ofBits, Ideal.ieee, -EReal.coe_mul]; norm_num

end Cert.FfnSpec

end
-- ==== Proof.FfnFirstBlock.lean ====
/- The first feed-forward call: what the body leaves in its buffers at a grid point. -/
module

public import proofs.«01_k».proof.Proof.Gen.FfnFirstIdeal.Value
public import proofs.«01_k».proof.Proof.FfnSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.FfnFirstIdeal.Step

open Cert.FfnFirstIdeal Cert.FfnFirstIdeal.Gen Cert.FfnFirstIdeal.Value Cert.FfnSpec

variable (m : (ℓ : Loc nD τ sig) → Buf (Elt Ideal) ℓ)

set_option maxHeartbeats 1600000 in
/-- At a first point of a run the scratch is left holding the block's rows, normalised. -/
theorem rows_A (c : Dev nD) (t : Fin cfg0.N) (acc) (h0 : t.val % 11 = 0) (h1 : ¬t.val % 11 = 10) (y : S512x2048.Idx) :
    (stAt0 m c t.val t.isLt acc).2 y = rowOf (iblk m c 0 t) (iblk m c 1 t) (y 0) (y 1) := by
  suffices ∀ R, R = rowOf (iblk m c 0 t) (iblk m c 1 t) (y 0) (y 1) → (stAt0 m c t.val t.isLt acc).2 y = R from this _ rfl
  intro R hR
  rw [stAt0_A m c t acc h0 h1]
  dsimp only
  frame_open
  simp (disch := decide) only [↓ View.readCov_skip, ↓ View.readCov_cons_toLoadRect, ↓ View.readCov_fill]
  frame_out
  clear h0 h1
  simp only [rowOf, normed] at hR
  subst hR; open_payloads; pointwise []

set_option maxHeartbeats 1600000 in
/-- At a first point of a run the output block is left holding the first tile's sums. -/
theorem sums_A (c : Dev nD) (t : Fin cfg0.N) (acc) (h0 : t.val % 11 = 0) (h1 : ¬t.val % 11 = 10) (y : S512x2048.Idx) :
    (stAt0 m c t.val t.isLt acc).1 y
      = Ideal.ofBits .f32 0x00000000#32 + tile (rowOf (iblk m c 0 t) (iblk m c 1 t) (y 0)) (iblk m c 2 t) (iblk m c 3 t) (iblk m c 4 t) (y 1) := by
  suffices ∀ R, R = Ideal.ofBits .f32 0x00000000#32 + tile (rowOf (iblk m c 0 t) (iblk m c 1 t) (y 0)) (iblk m c 2 t) (iblk m c 3 t) (iblk m c 4 t) (y 1)
      → (stAt0 m c t.val t.isLt acc).1 y = R from this _ rfl
  intro R hR
  rw [stAt0_A m c t acc h0 h1]
  dsimp only
  frame_open
  simp (disch := decide) only [↓ View.readCov_skip, ↓ View.readCov_cons_toLoadRect, ↓ View.readCov_fill]
  frame_out
  clear h0 h1
  simp only [tile, hiddenAt, gated, rowOf, normed] at hR
  subst hR; open_payloads; pointwise []

/-- At a later point the scratch stays as it was. -/
theorem rows_B (c : Dev nD) (t : Fin cfg0.N) (acc) (h0 : ¬t.val % 11 = 0) (h1 : ¬t.val % 11 = 10) :
    (stAt0 m c t.val t.isLt acc).2 = acc.2 := by
  rw [stAt0_B m c t acc h0 h1]
  rfl

set_option maxHeartbeats 1600000 in
/-- At a middle point the tile's sums are added to the output block. -/
theorem sums_B (c : Dev nD) (t : Fin cfg0.N) (acc) (h0 : ¬t.val % 11 = 0) (h1 : ¬t.val % 11 = 10) (y : S512x2048.Idx) :
    (stAt0 m c t.val t.isLt acc).1 y
      = acc.1 y + tile (fun e => acc.2 (ix2 (y 0) e)) (iblk m c 2 t) (iblk m c 3 t) (iblk m c 4 t) (y 1) := by
  suffices ∀ R, R = acc.1 y + tile (fun e => acc.2 (ix2 (y 0) e)) (iblk m c 2 t) (iblk m c 3 t) (iblk m c 4 t) (y 1)
      → (stAt0 m c t.val t.isLt acc).1 y = R from this _ rfl
  intro R hR
  rw [stAt0_B m c t acc h0 h1]
  dsimp only
  frame_open
  simp (disch := decide) only [↓ View.readCov_skip, ↓ View.readCov_cons_toLoadRect, ↓ View.readCov_fill]
  frame_out
  clear h0 h1
  simp only [tile, hiddenAt, gated] at hR
  simp only [(Memref.isWhole_whole _).read_unread]; subst hR; open_payloads; pointwise []

set_option maxHeartbeats 1600000 in
/-- At a last point the output block is left holding the residual. -/
theorem out_C (c : Dev nD) (t : Fin cfg0.N) (acc) (h0 : ¬t.val % 11 = 0) (h1 : t.val % 11 = 10) (y : S512x2048.Idx) :
    (stAt0 m c t.val t.isLt acc).1 y
      = summed (iblk m c 0 t) acc.1 acc.2 (iblk m c 2 t) (iblk m c 3 t) (iblk m c 4 t) (y 0) (y 1) := by
  suffices ∀ R, R = summed (iblk m c 0 t) acc.1 acc.2 (iblk m c 2 t) (iblk m c 3 t) (iblk m c 4 t) (y 0) (y 1)
      → (stAt0 m c t.val t.isLt acc).1 y = R from this _ rfl
  intro R hR
  rw [stAt0_C m c t acc h0 h1]
  dsimp only
  frame_open
  simp (disch := decide) only [↓ View.readCov_skip, ↓ View.readCov_cons_toLoadRect, ↓ View.readCov_fill]
  frame_out
  clear h0 h1
  simp only [summed, halfStep, tile, hiddenAt, gated] at hR
  simp only [(Memref.isWhole_whole _).read_unread]; subst hR; open_payloads; pointwise []

/-- At a last point the scratch stays as it was, too; only a first point writes it. -/
theorem rows_C (c : Dev nD) (t : Fin cfg0.N) (acc) (h0 : ¬t.val % 11 = 0) (h1 : t.val % 11 = 10) :
    (stAt0 m c t.val t.isLt acc).2 = acc.2 := by
  rw [stAt0_C m c t acc h0 h1]
  rfl

end Cert.FfnFirstIdeal.Step

end
-- ==== Proof.FfnFirstArray.lean ====
/- The first feed-forward call: the output block carried over the tiles of the hidden width, and the output array. -/
module

public import proofs.«01_k».proof.Proof.FfnFirstBlock

@[expose] public section

set_option maxRecDepth 16384

noncomputable section

open Idealize.ShloMosaic Idealize.ShloMosaic.TcCoe Idealize.SL.Sem

namespace Cert.FfnFirstIdeal.Step

open Cert.FfnFirstIdeal Cert.FfnFirstIdeal.Gen Cert.FfnFirstIdeal.Value Cert.FfnSpec

variable (m : (ℓ : Loc nD τ sig) → Buf (Elt Ideal) ℓ)

/-- The block each window stages at a grid point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] :=
  (by decide +kernel : ∀ t : Fin grid0.N, _)

/-- The row of the array that row `r` of run `i`'s block is. -/
def place (i : ℕ) (r : Fin 512) : Fin 16384 := ⟨i % 32 * 512 + r.val, by omega⟩

/-- The normalised row `R` of the input, from the launch's memory. -/
abbrev xRow (c : Dev nD) (R : Fin 16384) : Fin 2048 → EReal :=
  rowOf (m ((c.tc : Thread nD τ).loc main_arg0)) (m ((c.tc : Thread nD τ).loc main_arg1)) R

/-- What hidden entry `k` adds to row `R`, column `d`, from the launch's memory. -/
abbrev xTerm (c : Dev nD) (R : Fin 16384) (d : Fin 2048) (k : Fin 5632) : EReal :=
  term (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) R d k

/-- A block's input entry. -/
theorem input_block (c : Dev nD) (t : Fin cfg0.N) (r : Fin 512) (e : Fin 2048) :
    (show FVec Ideal S512x2048 .f32 from iblk m c 0 t) (ix2 r e)
      = (show FVec Ideal S16384x2048 .f32 from m ((c.tc : Thread nD τ).loc main_arg0)) (ix2 (place (t.val / 11) r) e) := by
  have ht : t.val < 352 := t.isLt
  blk_point [iblk, V, idx t, place]

/-- A block's norm weight. -/
theorem weight_block (c : Dev nD) (t : Fin cfg0.N) (e : Fin 2048) :
    (show FVec Ideal S1x2048 .f32 from iblk m c 1 t) (ix2 0 e)
      = (show FVec Ideal S1x2048 .f32 from m ((c.tc : Thread nD τ).loc main_arg1)) (ix2 0 e) := by
  blk_point [iblk, V, idx t]

/-- A block's gate weight. -/
theorem gate_block (c : Dev nD) (t : Fin cfg0.N) (e : Fin 2048) (k : Fin 512) :
    (show FVec Ideal S2048x512 .bf16 from iblk m c 2 t) (ix2 e k)
      = (show FVec Ideal S1x2048x5632 .f32 from m ((c.tc : Thread nD τ).loc main_arg2)) (ix3 0 e ⟨(t.val % 11 * 512 + k.val) % 5632, by omega⟩) := by
  blk_point [iblk, V, idx t]

/-- A block's up-projection weight. -/
theorem up_block (c : Dev nD) (t : Fin cfg0.N) (e : Fin 2048) (k : Fin 512) :
    (show FVec Ideal S2048x512 .bf16 from iblk m c 3 t) (ix2 e k)
      = (show FVec Ideal S1x2048x5632 .f32 from m ((c.tc : Thread nD τ).loc main_arg3)) (ix3 0 e ⟨(t.val % 11 * 512 + k.val) % 5632, by omega⟩) := by
  blk_point [iblk, V, idx t]

/-- A block's down-projection weight. -/
theorem down_block (c : Dev nD) (t : Fin cfg0.N) (k : Fin 512) (d : Fin 2048) :
    (show FVec Ideal S512x2048 .bf16 from iblk m c 4 t) (ix2 k d)
      = (show FVec Ideal S1x5632x2048 .f32 from m ((c.tc : Thread nD τ).loc main_arg4)) (ix3 0 ⟨(t.val % 11 * 512 + k.val) % 5632, by omega⟩ d) := by
  blk_point [iblk, V, idx t]

/-- A block's row, normalised, is the array's. -/
theorem row_block (c : Dev nD) (t : Fin cfg0.N) (r : Fin 512) :
    rowOf (iblk m c 0 t) (iblk m c 1 t) r = xRow m c (place (t.val / 11) r) := by
  funext e
  exact congrArg₂ (fun x g => normed x g e) (funext fun e => input_block m c t r e) (funext fun e => weight_block m c t e)

/-- What one grid point adds to a row of the output block, from the array's row. -/
theorem tile_block (c : Dev nD) (t : Fin cfg0.N) (R : Fin 16384) (d : Fin 2048) :
    tile (xRow m c R) (iblk m c 2 t) (iblk m c 3 t) (iblk m c 4 t) d
      = tileSum (xTerm m c R d) (t.val % 11) :=
  Finset.sum_congr rfl fun k _ => Ideal.mul_congr
    (congrArg₂ (hiddenAt (xRow m c R)) (funext fun e => gate_block m c t e k) (funext fun e => up_block m c t e k)) (down_block m c t k d)

/-- What the output block and the scratch hold after tile `j` of run `i`, unless `j` is the last. -/
def Holds (c : Dev nD) (i j : ℕ) (b : Vec Ideal S512x2048 .f32 × Vec Ideal S512x2048 .bf16) : Prop :=
  ∀ (r : Fin 512) (d : Fin 2048), b.1 (ix2 r d) = partialSum (xTerm m c (place i r) d) (j + 1) ∧ b.2 (ix2 r d) = xRow m c (place i r) d

/-- A first tile leaves its own sums. -/
theorem holds_first (c : Dev nD) (t : Fin cfg0.N) (acc) (h0 : t.val % 11 = 0) :
    Holds m c (t.val / 11) (t.val % 11) (stAt0 m c t.val t.isLt acc) := by
  intro r d
  have h1 : ¬ t.val % 11 = 10 := by omega
  refine ⟨(sums_A m c t acc h0 h1 (ix2 r d)).trans ?_, (rows_A m c t acc h0 h1 (ix2 r d)).trans ?_⟩
  · change Ideal.ofBits .f32 0x00000000#32 + tile (rowOf (iblk m c 0 t) (iblk m c 1 t) r) (iblk m c 2 t) (iblk m c 3 t) (iblk m c 4 t) d = _
    rw [row_block, tile_block, ofBits_zero, partialSum_succ, h0, partialSum_zero]
  · exact congrFun (row_block m c t r) d

/-- The scratch's row is the array's, where the block before left it so. -/
theorem held_row (c : Dev nD) (i j : ℕ) (acc) (H : Holds m c i j acc) (r : Fin 512) :
    (fun e => acc.2 (ix2 r e)) = xRow m c (place i r) := funext fun e => (H r e).2

/-- A middle tile adds its sums. -/
theorem holds_next (c : Dev nD) (t : Fin cfg0.N) (acc) (j : ℕ) (hj : t.val % 11 = j + 1) (h1 : ¬ t.val % 11 = 10)
    (H : Holds m c (t.val / 11) j acc) : Holds m c (t.val / 11) (t.val % 11) (stAt0 m c t.val t.isLt acc) := by
  intro r d
  have h0 : ¬ t.val % 11 = 0 := by omega
  refine ⟨(sums_B m c t acc h0 h1 (ix2 r d)).trans ?_, (congrFun (rows_B m c t acc h0 h1) _).trans (H r d).2⟩
  change acc.1 (ix2 r d) + tile (fun e => acc.2 (ix2 r e)) (iblk m c 2 t) (iblk m c 3 t) (iblk m c 4 t) d = _
  rw [held_row m c _ _ acc H, tile_block, (H r d).1, hj]
  exact (partialSum_succ _ (j + 1)).symm

/-- At every grid point but a run's last the output block holds the sums of the tiles so far. -/
theorem carried (c : Dev nD) : ∀ (n : ℕ) (hn : n < cfg0.N), ¬ n % 11 = 10 → Holds m c (n / 11) (n % 11) (outsAt0 m c n hn)
  | 0, hn, _ => by
    rw [outsAt0_zero]
    exact holds_first m c ⟨0, hn⟩ _ rfl
  | n + 1, hn, hl => by
    rw [outsAt0_succ]
    by_cases h0 : (n + 1) % 11 = 0
    · exact holds_first m c ⟨n + 1, hn⟩ _ h0
    · refine holds_next m c ⟨n + 1, hn⟩ _ (n % 11) (by dsimp only; omega) hl ?_
      have e : (n + 1) / 11 = n / 11 := by omega
      dsimp only
      rw [e]
      exact carried c n _ (by omega)

/-- The residual at a last point of a run. -/
theorem summed_last (c : Dev nD) (t : Fin cfg0.N) (acc) (h10 : t.val % 11 = 10) (H : Holds m c (t.val / 11) 9 acc) (r : Fin 512)
    (R : Fin 16384) (hR : place (t.val / 11) r = R) (d : Fin 2048) :
    summed (iblk m c 0 t) acc.1 acc.2 (iblk m c 2 t) (iblk m c 3 t) (iblk m c 4 t) r d
      = stepAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R d := by
  subst hR
  refine congrArg₂ halfStep (input_block m c t r d) ?_
  rw [held_row m c _ _ acc H, tile_block, (H r d).1, h10, ← partialSum_all]
  exact (partialSum_succ _ 10).symm

/-- What a last point of a run leaves in the output block, at the array's row `R`. -/
theorem out_last (c : Dev nD) (t : Fin cfg0.N) (acc) (h10 : t.val % 11 = 10) (H : Holds m c (t.val / 11) 9 acc) (y : S512x2048.Idx)
    (R : Fin 16384) (hR : place (t.val / 11) (y 0) = R) :
    (stAt0 m c t.val t.isLt acc).1 y
      = stepAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R (y 1) :=
  (out_C m c t acc (by omega) h10 y).trans (summed_last m c t acc h10 H (y 0) R hR (y 1))

/-- The same, at the run's number. -/
theorem out_end (c : Dev nD) (i : ℕ) (hi : 11 * i + 10 < cfg0.N) (y : S512x2048.Idx) (R : Fin 16384) (hR : place i (y 0) = R) :
    (outsAt0 m c (11 * i + 10) hi).1 y
      = stepAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R (y 1) := by
  have H := carried m c (11 * i + 9) (by omega) (by omega)
  rw [show (11 * i + 9) % 11 = 9 by omega, show (11 * i + 9) / 11 = (11 * i + 10) / 11 by omega] at H
  exact out_last m c ⟨11 * i + 10, hi⟩ (outsAt0 m c (11 * i + 9) (by omega)) (by dsimp only; omega) H y R
    ((congrArg (fun n => place n (y 0)) (by dsimp only; omega)).trans hR)

/-- The output array at an index is the last point of its run, at its place in the block. -/
theorem array_eq (c : Dev nD) (i : S16384x2048.Idx) (n : ℕ) (h : run6Of i = n) (hn : 11 * n + 10 < cfg0.N) :
    G6 m c i = (outsAt0 m c (11 * n + 10) hn).1 (loc6Of i) := by
  subst h
  rw [outsAt0_sweep m c _ hn]
  unfold G6
  rw [dif_pos hn]

/-- The output array at row `R`, column `d`: the half step. -/
theorem array_at (c : Dev nD) (R : Fin 16384) (d : Fin 2048) :
    G6 m c (ix2 R d)
      = stepAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R d := by
  have hN : cfg0.N = 352 := N_0
  have hd : (loc6Of (ix2 R d) 1 : Fin 2048) = d := Fin.ext (Nat.mod_eq_of_lt d.isLt)
  rw [array_eq m c _ (R.val / 512) (by show 1 * (R.val / 512 - 0) + 1 * (d.val / 2048 - 0) = _; omega) (by omega),
    out_end m c (R.val / 512) _ _ R (Fin.ext (by show R.val / 512 % 32 * 512 + R.val % 512 = R.val; omega))]
  exact congrArg _ hd

end Cert.FfnFirstIdeal.Step

end
-- ==== Proof.FfnRead.lean ====
/- The feed-forward calls' references, read at an index. -/
module

public import proofs.«01_k».proof.Proof.Gen.FfnFirstRefIdeal.Read
public import proofs.«01_k».proof.Proof.Gen.FfnLastRefIdeal.Read
public import proofs.«01_k».proof.Proof.FfnSpec
public import Idealize.ShloMosaic.Lib.Pointwise

@[expose] public section

set_option maxRecDepth 16384

noncomputable section

open Idealize.ShloMosaic Idealize.ShloMosaic.TcCoe Idealize.SL.Sem

namespace Cert.FfnFirstRefIdeal.At

open Cert.FfnFirstRefIdeal Cert.FfnFirstRefIdeal.Gen Cert.FfnFirstRefIdeal.Read Cert.FfnSpec

variable (X : FVec Ideal S16384x2048 .f32) (G : FVec Ideal S1x2048 .f32) (WG WU : FVec Ideal S1x2048x5632 .f32) (WD : FVec Ideal S1x5632x2048 .f32)

/-- The normalised input. -/
theorem row (R : Fin 16384) (e : Fin 2048) : val_main_v13 (F := Ideal) X G (ix2 R e) = rowOf X G R e := by
  pointwise [val_main_v13, val_main_v12, val_main_v11, val_main_v10, val_main_v9, val_main_v8, val_main_v7, val_main_v6, val_main_cst_1,
    val_main_v5, val_main_v4, val_main_cst_0, val_main_v3, val_main_v2, val_main_cst, val_main_v1, val_main_v0, rowOf, normed]

/-- The gate projection. -/
theorem gate (R : Fin 16384) (k : Fin 5632) :
    val_main_v15 (F := Ideal) X G WG (ix2 R k) = ∑ e : Fin 2048, rowOf X G R e * WG (ix3 0 e k) := by
  rw [val_main_v15_apply]
  refine Finset.sum_congr rfl fun e _ => Ideal.mul_congr ?_ ?_
  · exact (congrArg (val_main_v13 (F := Ideal) X G) (by idx_ext)).trans (row X G R e)
  · rw [val_main_v14_apply]
    exact congrArg WG (by idx_ext)

/-- The up-projection. -/
theorem up (R : Fin 16384) (k : Fin 5632) :
    val_main_v18 (F := Ideal) X G WU (ix2 R k) = ∑ e : Fin 2048, rowOf X G R e * WU (ix3 0 e k) := by
  rw [val_main_v18_apply]
  refine Finset.sum_congr rfl fun e _ => Ideal.mul_congr ?_ ?_
  · exact (congrArg (val_main_v13 (F := Ideal) X G) (by idx_ext)).trans (row X G R e)
  · rw [val_main_v17_apply]
    exact congrArg WU (by idx_ext)

/-- The gated hidden value. -/
theorem hiddenValue (R : Fin 16384) (k : Fin 5632) :
    val_main_v19 (F := Ideal) X G WG WU (ix2 R k) = hiddenAt (rowOf X G R) (fun e => WG (ix3 0 e k)) (fun e => WU (ix3 0 e k)) := by
  rw [val_main_v19_apply, val_main_v16_apply, val_main_call0_v5_apply, val_main_call0_v4_apply, val_main_call0_cst_0_apply, val_main_call0_v3_apply,
    val_main_call0_v2_apply, val_main_call0_cst_apply, val_main_call0_v1_apply, val_main_call0_v0_apply, gate, up]
  unfold hiddenAt gated
  generalize (∑ e : Fin 2048, rowOf X G R e * WG (ix3 0 e k)) = a
  generalize (∑ e : Fin 2048, rowOf X G R e * WU (ix3 0 e k)) = b
  change a * Ideal.div (Ideal.ofBits .f32 0x3F800000#32) (Ideal.ofBits .f32 0x3F800000#32 + Ideal.exp (-a)) * b = _
  rw [ofBits_one]
  rfl

/-- The half step. -/
theorem result (R : Fin 16384) (d : Fin 2048) : val_main_v24 (F := Ideal) X G WG WU WD (ix2 R d) = stepAt X G WG WU WD R d := by
  rw [val_main_v24_apply, val_main_v23_apply, val_main_v22_apply, val_main_cst_2_apply, val_main_v21_apply]
  refine congrArg (halfStep (X (ix2 R d))) (Finset.sum_congr rfl fun k _ => Ideal.mul_congr ?_ ?_)
  · exact (congrArg (val_main_v19 (F := Ideal) X G WG WU) (by idx_ext)).trans (hiddenValue X G WG WU R k)
  · rw [val_main_v20_apply]
    exact congrArg WD (by idx_ext)

end Cert.FfnFirstRefIdeal.At

namespace Cert.FfnLastRefIdeal.At

open Cert.FfnLastRefIdeal Cert.FfnLastRefIdeal.Gen Cert.FfnLastRefIdeal.Read Cert.FfnSpec

variable (X : FVec Ideal S16384x2048 .f32) (G : FVec Ideal S1x2048 .f32) (WG WU : FVec Ideal S1x2048x5632 .f32) (WD : FVec Ideal S1x5632x2048 .f32)
  (N : FVec Ideal S2048 .f32)

/-- The half step, which is the first call's result of these arguments. -/
theorem half (R : Fin 16384) (d : Fin 2048) : val_main_v24 (F := Ideal) X G WG WU WD (ix2 R d) = stepAt X G WG WU WD R d :=
  (congrFun (show val_main_v24 (F := Ideal) X G WG WU WD = Cert.FfnFirstRefIdeal.Read.val_main_v24 (F := Ideal) X G WG WU WD from rfl) _).trans
    (Cert.FfnFirstRefIdeal.At.result X G WG WU WD R d)

/-- The result: the half step, normalised. -/
theorem result (R : Fin 16384) (d : Fin 2048) :
    val_main_v37 (F := Ideal) X G WG WU WD N (ix2 R d) = normed (stepAt X G WG WU WD R) (fun e => N (ix1 e)) d := by
  pointwise [val_main_v37, val_main_v36, val_main_v35, val_main_v34, val_main_v33, val_main_v32, val_main_v31, val_main_v30, val_main_cst_5,
    val_main_v29, val_main_v28, val_main_cst_4, val_main_v27, val_main_v26, val_main_cst_3, val_main_v25, half, normed]

end Cert.FfnLastRefIdeal.At

end
-- ==== Proof.FfnFirstEquation.lean ====
/- The first feed-forward call: the kernel's output array is the reference's result of the same five arguments. -/
module

public import proofs.«01_k».proof.Proof.FfnFirstArray
public import proofs.«01_k».proof.Proof.FfnRead

@[expose] public section

set_option maxRecDepth 16384

noncomputable section

open Idealize.ShloMosaic Idealize.ShloMosaic.TcCoe Idealize.SL.Sem

namespace Cert.FfnFirstIdeal.Step

open Cert.FfnFirstIdeal Cert.FfnFirstIdeal.Gen Cert.FfnFirstIdeal.Value Cert.FfnSpec

/-- The output array is the reference's function of the arguments. -/
theorem equation (m : (ℓ : Loc nD τ sig) → Buf (Elt Ideal) ℓ) (c : Dev nD) :
    G6 m c = Cert.FfnFirstRefIdeal.Read.val_main_v24 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  funext i
  idx_vars i
  exact (array_at m c i0 i1).trans (Cert.FfnFirstRefIdeal.At.result _ _ _ _ _ i0 i1).symm

end Cert.FfnFirstIdeal.Step

end
-- ==== Proof.FfnFirstClaim.lean ====
/- The claims about the first feed-forward call. -/
module

public import proofs.«01_k».proof.Defs
public import proofs.«01_k».proof.Proof.Gen.FfnFirst.Frame
public import proofs.«01_k».proof.Proof.Gen.FfnFirstIdeal.Value
public import proofs.«01_k».proof.Proof.Gen.FfnFirstRefIdeal.Run
public import proofs.«01_k».proof.Proof.Gen.FfnFirstRefIdeal.Read
public import proofs.«01_k».proof.Proof.FfnFirstEquation
public import Idealize.ShloMosaic.Adequacy
public import Idealize.ShloMosaic.Init
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem

namespace Cert.Proof.FfnFirst

/-- The kernel of the first feed-forward call runs, leaves its arguments unchanged and every semaphore at zero. -/
theorem kernel : quiescent_FfnFirst (hFfnFirst := Cert.FfnFirst.Gen.facts) := fun m ρ _ => Cert.FfnFirst.Gen.frame m ρ

/-- The same of its ideal form. -/
theorem ideal : quiescent_FfnFirstIdeal (hFfnFirstIdeal := Cert.FfnFirstIdeal.Gen.facts) := fun m ρ _ => Cert.FfnFirstIdeal.Gen.frame m ρ

/-- The reference runs, leaves its arguments unchanged and every semaphore at zero. -/
theorem reference : quiescent_FfnFirstRefIdeal (hFfnFirstRefIdeal := Cert.FfnFirstRefIdeal.Gen.facts) := fun m ρ _ =>
  (θ_run Cert.FfnFirstRefIdeal.defs _ _).mono (fun r h => ⟨fun c => (h c).2, sem_eq_zero_of_no_sems (by decide) r.2⟩)
    (Cert.FfnFirstRefIdeal.Value.run (F := Ideal) m ρ)

/-- The ideal form is the kernel's own. -/
theorem preserves : preserves_FfnFirst_FfnFirstIdeal := trivial
theorem algebraic : algebraic_FfnFirstIdeal_FfnFirstRefIdeal (hFfnFirstIdeal := Cert.FfnFirstIdeal.Gen.facts) (hFfnFirstRefIdeal := Cert.FfnFirstRefIdeal.Gen.facts) := by
  intro m ρ m' ρ' _ hagree
  refine ⟨_, Cert.FfnFirstIdeal.Value.run (F := Ideal) m ρ, ?_⟩
  refine (θ_run Cert.FfnFirstRefIdeal.defs _ _).mono (fun _ h c => ⟨?_, (h c).2⟩) (Cert.FfnFirstRefIdeal.Value.run (F := Ideal) m' ρ')
  rw [(h c).1, Cert.FfnFirstRefIdeal.Read.val_main_v24_eq, (hagree c).1, (hagree c).2.1, (hagree c).2.2.1, (hagree c).2.2.2.1, (hagree c).2.2.2.2.1]
  exact (Cert.FfnFirstIdeal.Step.equation m c).symm

end Cert.Proof.FfnFirst

end
-- ==== Proof.FfnLastBlock.lean ====
/- The last feed-forward call: what the body leaves in its buffers at a grid point. -/
module

public import proofs.«01_k».proof.Proof.Gen.FfnLastIdeal.Value
public import proofs.«01_k».proof.Proof.FfnSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.FfnLastIdeal.Step

open Cert.FfnLastIdeal Cert.FfnLastIdeal.Gen Cert.FfnLastIdeal.Value Cert.FfnSpec

variable (m : (ℓ : Loc nD τ sig) → Buf (Elt Ideal) ℓ)

set_option maxHeartbeats 1600000 in
/-- At a first point of a run the scratch is left holding the block's rows, normalised. -/
theorem rows_A (c : Dev nD) (t : Fin cfg0.N) (acc) (h0 : t.val % 11 = 0) (h1 : ¬t.val % 11 = 10) (y : S512x2048.Idx) :
    (stAt0 m c t.val t.isLt acc).2 y = rowOf (iblk m c 0 t) (iblk m c 1 t) (y 0) (y 1) := by
  suffices ∀ R, R = rowOf (iblk m c 0 t) (iblk m c 1 t) (y 0) (y 1) → (stAt0 m c t.val t.isLt acc).2 y = R from this _ rfl
  intro R hR
  rw [stAt0_A m c t acc h0 h1]
  dsimp only
  frame_open
  simp (disch := decide) only [↓ View.readCov_skip, ↓ View.readCov_cons_toLoadRect, ↓ View.readCov_fill]
  frame_out
  clear h0 h1
  simp only [rowOf, normed] at hR
  subst hR; open_payloads; pointwise []

set_option maxHeartbeats 1600000 in
/-- At a first point of a run the output block is left holding the first tile's sums. -/
theorem sums_A (c : Dev nD) (t : Fin cfg0.N) (acc) (h0 : t.val % 11 = 0) (h1 : ¬t.val % 11 = 10) (y : S512x2048.Idx) :
    (stAt0 m c t.val t.isLt acc).1 y
      = Ideal.ofBits .f32 0x00000000#32 + tile (rowOf (iblk m c 0 t) (iblk m c 1 t) (y 0)) (iblk m c 2 t) (iblk m c 3 t) (iblk m c 4 t) (y 1) := by
  suffices ∀ R, R = Ideal.ofBits .f32 0x00000000#32 + tile (rowOf (iblk m c 0 t) (iblk m c 1 t) (y 0)) (iblk m c 2 t) (iblk m c 3 t) (iblk m c 4 t) (y 1)
      → (stAt0 m c t.val t.isLt acc).1 y = R from this _ rfl
  intro R hR
  rw [stAt0_A m c t acc h0 h1]
  dsimp only
  frame_open
  simp (disch := decide) only [↓ View.readCov_skip, ↓ View.readCov_cons_toLoadRect, ↓ View.readCov_fill]
  frame_out
  clear h0 h1
  simp only [tile, hiddenAt, gated, rowOf, normed] at hR
  subst hR; open_payloads; pointwise []

/-- At a later point the scratch stays as it was. -/
theorem rows_B (c : Dev nD) (t : Fin cfg0.N) (acc) (h0 : ¬t.val % 11 = 0) (h1 : ¬t.val % 11 = 10) :
    (stAt0 m c t.val t.isLt acc).2 = acc.2 := by
  rw [stAt0_B m c t acc h0 h1]
  rfl

set_option maxHeartbeats 1600000 in
/-- At a middle point the tile's sums are added to the output block. -/
theorem sums_B (c : Dev nD) (t : Fin cfg0.N) (acc) (h0 : ¬t.val % 11 = 0) (h1 : ¬t.val % 11 = 10) (y : S512x2048.Idx) :
    (stAt0 m c t.val t.isLt acc).1 y
      = acc.1 y + tile (fun e => acc.2 (ix2 (y 0) e)) (iblk m c 2 t) (iblk m c 3 t) (iblk m c 4 t) (y 1) := by
  suffices ∀ R, R = acc.1 y + tile (fun e => acc.2 (ix2 (y 0) e)) (iblk m c 2 t) (iblk m c 3 t) (iblk m c 4 t) (y 1)
      → (stAt0 m c t.val t.isLt acc).1 y = R from this _ rfl
  intro R hR
  rw [stAt0_B m c t acc h0 h1]
  dsimp only
  frame_open
  simp (disch := decide) only [↓ View.readCov_skip, ↓ View.readCov_cons_toLoadRect, ↓ View.readCov_fill]
  frame_out
  clear h0 h1
  simp only [tile, hiddenAt, gated] at hR
  simp only [(Memref.isWhole_whole _).read_unread]; subst hR; open_payloads; pointwise []

set_option maxHeartbeats 1600000 in
/-- At a last point the output block is left holding the normalised rows of the residual. -/
theorem out_C (c : Dev nD) (t : Fin cfg0.N) (acc) (h0 : ¬t.val % 11 = 0) (h1 : t.val % 11 = 10) (y : S512x2048.Idx) :
    (stAt0 m c t.val t.isLt acc).1 y
      = normed (summed (iblk m c 0 t) acc.1 acc.2 (iblk m c 2 t) (iblk m c 3 t) (iblk m c 4 t) (y 0))
          (fun e => (show FVec Ideal S1x2048 .f32 from iblk m c 5 t) (ix2 0 e)) (y 1) := by
  suffices ∀ R, R = normed (summed (iblk m c 0 t) acc.1 acc.2 (iblk m c 2 t) (iblk m c 3 t) (iblk m c 4 t) (y 0))
          (fun e => (show FVec Ideal S1x2048 .f32 from iblk m c 5 t) (ix2 0 e)) (y 1)
      → (stAt0 m c t.val t.isLt acc).1 y = R from this _ rfl
  intro R hR
  rw [stAt0_C m c t acc h0 h1]
  dsimp only
  frame_open
  simp (disch := decide) only [↓ View.readCov_skip, ↓ View.readCov_cons_toLoadRect, ↓ View.readCov_fill]
  frame_out
  clear h0 h1
  simp only [summed, halfStep, tile, hiddenAt, gated, normed] at hR
  simp only [(Memref.isWhole_whole _).read_unread]; subst hR; open_payloads; pointwise []

/-- At a last point the scratch stays as it was, too; only a first point writes it. -/
theorem rows_C (c : Dev nD) (t : Fin cfg0.N) (acc) (h0 : ¬t.val % 11 = 0) (h1 : t.val % 11 = 10) :
    (stAt0 m c t.val t.isLt acc).2 = acc.2 := by
  rw [stAt0_C m c t acc h0 h1]
  rfl

end Cert.FfnLastIdeal.Step

end
-- ==== Proof.FfnLastArray.lean ====
/- The last feed-forward call: the output block carried over the tiles of the hidden width, and the output array. -/
module

public import proofs.«01_k».proof.Proof.FfnLastBlock

@[expose] public section

set_option maxRecDepth 16384

noncomputable section

open Idealize.ShloMosaic Idealize.ShloMosaic.TcCoe Idealize.SL.Sem

namespace Cert.FfnLastIdeal.Step

open Cert.FfnLastIdeal Cert.FfnLastIdeal.Gen Cert.FfnLastIdeal.Value Cert.FfnSpec

variable (m : (ℓ : Loc nD τ sig) → Buf (Elt Ideal) ℓ)

/-- The block each window stages at a grid point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] :=
  (by decide +kernel : ∀ t : Fin grid0.N, _)

/-- The row of the array that row `r` of run `i`'s block is. -/
def place (i : ℕ) (r : Fin 512) : Fin 16384 := ⟨i % 32 * 512 + r.val, by omega⟩

/-- The normalised row `R` of the input, from the launch's memory. -/
abbrev xRow (c : Dev nD) (R : Fin 16384) : Fin 2048 → EReal :=
  rowOf (m ((c.tc : Thread nD τ).loc main_arg0)) (m ((c.tc : Thread nD τ).loc main_arg1)) R

/-- What hidden entry `k` adds to row `R`, column `d`, from the launch's memory. -/
abbrev xTerm (c : Dev nD) (R : Fin 16384) (d : Fin 2048) (k : Fin 5632) : EReal :=
  term (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) R d k

/-- A block's input entry. -/
theorem input_block (c : Dev nD) (t : Fin cfg0.N) (r : Fin 512) (e : Fin 2048) :
    (show FVec Ideal S512x2048 .f32 from iblk m c 0 t) (ix2 r e)
      = (show FVec Ideal S16384x2048 .f32 from m ((c.tc : Thread nD τ).loc main_arg0)) (ix2 (place (t.val / 11) r) e) := by
  have ht : t.val < 352 := t.isLt
  blk_point [iblk, V, idx t, place]

/-- A block's norm weight. -/
theorem weight_block (c : Dev nD) (t : Fin cfg0.N) (e : Fin 2048) :
    (show FVec Ideal S1x2048 .f32 from iblk m c 1 t) (ix2 0 e)
      = (show FVec Ideal S1x2048 .f32 from m ((c.tc : Thread nD τ).loc main_arg1)) (ix2 0 e) := by
  blk_point [iblk, V, idx t]

/-- A block's gate weight. -/
theorem gate_block (c : Dev nD) (t : Fin cfg0.N) (e : Fin 2048) (k : Fin 512) :
    (show FVec Ideal S2048x512 .bf16 from iblk m c 2 t) (ix2 e k)
      = (show FVec Ideal S1x2048x5632 .f32 from m ((c.tc : Thread nD τ).loc main_arg2)) (ix3 0 e ⟨(t.val % 11 * 512 + k.val) % 5632, by omega⟩) := by
  blk_point [iblk, V, idx t]

/-- A block's up-projection weight. -/
theorem up_block (c : Dev nD) (t : Fin cfg0.N) (e : Fin 2048) (k : Fin 512) :
    (show FVec Ideal S2048x512 .bf16 from iblk m c 3 t) (ix2 e k)
      = (show FVec Ideal S1x2048x5632 .f32 from m ((c.tc : Thread nD τ).loc main_arg3)) (ix3 0 e ⟨(t.val % 11 * 512 + k.val) % 5632, by omega⟩) := by
  blk_point [iblk, V, idx t]

/-- A block's down-projection weight. -/
theorem down_block (c : Dev nD) (t : Fin cfg0.N) (k : Fin 512) (d : Fin 2048) :
    (show FVec Ideal S512x2048 .bf16 from iblk m c 4 t) (ix2 k d)
      = (show FVec Ideal S1x5632x2048 .f32 from m ((c.tc : Thread nD τ).loc main_arg4)) (ix3 0 ⟨(t.val % 11 * 512 + k.val) % 5632, by omega⟩ d) := by
  blk_point [iblk, V, idx t]

/-- A block's row, normalised, is the array's. -/
theorem row_block (c : Dev nD) (t : Fin cfg0.N) (r : Fin 512) :
    rowOf (iblk m c 0 t) (iblk m c 1 t) r = xRow m c (place (t.val / 11) r) := by
  funext e
  exact congrArg₂ (fun x g => normed x g e) (funext fun e => input_block m c t r e) (funext fun e => weight_block m c t e)

/-- What one grid point adds to a row of the output block, from the array's row. -/
theorem tile_block (c : Dev nD) (t : Fin cfg0.N) (R : Fin 16384) (d : Fin 2048) :
    tile (xRow m c R) (iblk m c 2 t) (iblk m c 3 t) (iblk m c 4 t) d
      = tileSum (xTerm m c R d) (t.val % 11) :=
  Finset.sum_congr rfl fun k _ => Ideal.mul_congr
    (congrArg₂ (hiddenAt (xRow m c R)) (funext fun e => gate_block m c t e k) (funext fun e => up_block m c t e k)) (down_block m c t k d)

/-- What the output block and the scratch hold after tile `j` of run `i`, unless `j` is the last. -/
def Holds (c : Dev nD) (i j : ℕ) (b : Vec Ideal S512x2048 .f32 × Vec Ideal S512x2048 .bf16) : Prop :=
  ∀ (r : Fin 512) (d : Fin 2048), b.1 (ix2 r d) = partialSum (xTerm m c (place i r) d) (j + 1) ∧ b.2 (ix2 r d) = xRow m c (place i r) d

/-- A first tile leaves its own sums. -/
theorem holds_first (c : Dev nD) (t : Fin cfg0.N) (acc) (h0 : t.val % 11 = 0) :
    Holds m c (t.val / 11) (t.val % 11) (stAt0 m c t.val t.isLt acc) := by
  intro r d
  have h1 : ¬ t.val % 11 = 10 := by omega
  refine ⟨(sums_A m c t acc h0 h1 (ix2 r d)).trans ?_, (rows_A m c t acc h0 h1 (ix2 r d)).trans ?_⟩
  · change Ideal.ofBits .f32 0x00000000#32 + tile (rowOf (iblk m c 0 t) (iblk m c 1 t) r) (iblk m c 2 t) (iblk m c 3 t) (iblk m c 4 t) d = _
    rw [row_block, tile_block, ofBits_zero, partialSum_succ, h0, partialSum_zero]
  · exact congrFun (row_block m c t r) d

/-- The scratch's row is the array's, where the block before left it so. -/
theorem held_row (c : Dev nD) (i j : ℕ) (acc) (H : Holds m c i j acc) (r : Fin 512) :
    (fun e => acc.2 (ix2 r e)) = xRow m c (place i r) := funext fun e => (H r e).2

/-- A middle tile adds its sums. -/
theorem holds_next (c : Dev nD) (t : Fin cfg0.N) (acc) (j : ℕ) (hj : t.val % 11 = j + 1) (h1 : ¬ t.val % 11 = 10)
    (H : Holds m c (t.val / 11) j acc) : Holds m c (t.val / 11) (t.val % 11) (stAt0 m c t.val t.isLt acc) := by
  intro r d
  have h0 : ¬ t.val % 11 = 0 := by omega
  refine ⟨(sums_B m c t acc h0 h1 (ix2 r d)).trans ?_, (congrFun (rows_B m c t acc h0 h1) _).trans (H r d).2⟩
  change acc.1 (ix2 r d) + tile (fun e => acc.2 (ix2 r e)) (iblk m c 2 t) (iblk m c 3 t) (iblk m c 4 t) d = _
  rw [held_row m c _ _ acc H, tile_block, (H r d).1, hj]
  exact (partialSum_succ _ (j + 1)).symm

/-- At every grid point but a run's last the output block holds the sums of the tiles so far. -/
theorem carried (c : Dev nD) : ∀ (n : ℕ) (hn : n < cfg0.N), ¬ n % 11 = 10 → Holds m c (n / 11) (n % 11) (outsAt0 m c n hn)
  | 0, hn, _ => by
    rw [outsAt0_zero]
    exact holds_first m c ⟨0, hn⟩ _ rfl
  | n + 1, hn, hl => by
    rw [outsAt0_succ]
    by_cases h0 : (n + 1) % 11 = 0
    · exact holds_first m c ⟨n + 1, hn⟩ _ h0
    · refine holds_next m c ⟨n + 1, hn⟩ _ (n % 11) (by dsimp only; omega) hl ?_
      have e : (n + 1) / 11 = n / 11 := by omega
      dsimp only
      rw [e]
      exact carried c n _ (by omega)

/-- The residual at a last point of a run. -/
theorem summed_last (c : Dev nD) (t : Fin cfg0.N) (acc) (h10 : t.val % 11 = 10) (H : Holds m c (t.val / 11) 9 acc) (r : Fin 512)
    (R : Fin 16384) (hR : place (t.val / 11) r = R) (d : Fin 2048) :
    summed (iblk m c 0 t) acc.1 acc.2 (iblk m c 2 t) (iblk m c 3 t) (iblk m c 4 t) r d
      = stepAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R d := by
  subst hR
  refine congrArg₂ halfStep (input_block m c t r d) ?_
  rw [held_row m c _ _ acc H, tile_block, (H r d).1, h10, ← partialSum_all]
  exact (partialSum_succ _ 10).symm

/-- A block's final norm weight. -/
theorem final_block (c : Dev nD) (t : Fin cfg0.N) (e : Fin 2048) :
    (show FVec Ideal S1x2048 .f32 from iblk m c 5 t) (ix2 0 e)
      = (show FVec Ideal S2048 .f32 from m ((c.tc : Thread nD τ).loc main_arg5)) (ix1 e) := by
  blk_point [iblk, V, idx t]

/-- What a last point of a run leaves in the output block, at the array's row `R`. -/
theorem out_last (c : Dev nD) (t : Fin cfg0.N) (acc) (h10 : t.val % 11 = 10) (H : Holds m c (t.val / 11) 9 acc) (y : S512x2048.Idx)
    (R : Fin 16384) (hR : place (t.val / 11) (y 0) = R) :
    (stAt0 m c t.val t.isLt acc).1 y
      = normed (stepAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R)
          (fun e => (show FVec Ideal S2048 .f32 from m ((c.tc : Thread nD τ).loc main_arg5)) (ix1 e)) (y 1) :=
  (out_C m c t acc (by omega) h10 y).trans
    (congrArg₂ (fun x g => normed x g (y 1)) (funext fun d => summed_last m c t acc h10 H (y 0) R hR d) (funext fun e => final_block m c t e))

/-- The same, at the run's number. -/
theorem out_end (c : Dev nD) (i : ℕ) (hi : 11 * i + 10 < cfg0.N) (y : S512x2048.Idx) (R : Fin 16384) (hR : place i (y 0) = R) :
    (outsAt0 m c (11 * i + 10) hi).1 y
      = normed (stepAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R)
          (fun e => (show FVec Ideal S2048 .f32 from m ((c.tc : Thread nD τ).loc main_arg5)) (ix1 e)) (y 1) := by
  have H := carried m c (11 * i + 9) (by omega) (by omega)
  rw [show (11 * i + 9) % 11 = 9 by omega, show (11 * i + 9) / 11 = (11 * i + 10) / 11 by omega] at H
  exact out_last m c ⟨11 * i + 10, hi⟩ (outsAt0 m c (11 * i + 9) (by omega)) (by dsimp only; omega) H y R
    ((congrArg (fun n => place n (y 0)) (by dsimp only; omega)).trans hR)

/-- The output array at an index is the last point of its run, at its place in the block. -/
theorem array_eq (c : Dev nD) (i : S16384x2048.Idx) (n : ℕ) (h : run6Of i = n) (hn : 11 * n + 10 < cfg0.N) :
    G6 m c i = (outsAt0 m c (11 * n + 10) hn).1 (loc6Of i) := by
  subst h
  rw [outsAt0_sweep m c _ hn]
  unfold G6
  rw [dif_pos hn]

/-- The output array at row `R`, column `d`: the normalised half step. -/
theorem array_at (c : Dev nD) (R : Fin 16384) (d : Fin 2048) :
    G6 m c (ix2 R d)
      = normed (stepAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R)
          (fun e => (show FVec Ideal S2048 .f32 from m ((c.tc : Thread nD τ).loc main_arg5)) (ix1 e)) d := by
  have hN : cfg0.N = 352 := N_0
  have hd : (loc6Of (ix2 R d) 1 : Fin 2048) = d := Fin.ext (Nat.mod_eq_of_lt d.isLt)
  rw [array_eq m c _ (R.val / 512) (by show 1 * (R.val / 512 - 0) + 1 * (d.val / 2048 - 0) = _; omega) (by omega),
    out_end m c (R.val / 512) _ _ R (Fin.ext (by show R.val / 512 % 32 * 512 + R.val % 512 = R.val; omega))]
  exact congrArg _ hd

end Cert.FfnLastIdeal.Step

end
-- ==== Proof.FfnLastEquation.lean ====
/- The last feed-forward call: the kernel's output array is the reference's result of the same six arguments. -/
module

public import proofs.«01_k».proof.Proof.FfnLastArray
public import proofs.«01_k».proof.Proof.FfnRead

@[expose] public section

set_option maxRecDepth 16384

noncomputable section

open Idealize.ShloMosaic Idealize.ShloMosaic.TcCoe Idealize.SL.Sem

namespace Cert.FfnLastIdeal.Step

open Cert.FfnLastIdeal Cert.FfnLastIdeal.Gen Cert.FfnLastIdeal.Value Cert.FfnSpec

/-- The output array is the reference's function of the arguments. -/
theorem equation (m : (ℓ : Loc nD τ sig) → Buf (Elt Ideal) ℓ) (c : Dev nD) :
    G6 m c = Cert.FfnLastRefIdeal.Read.val_main_v37 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  funext i
  idx_vars i
  exact (array_at m c i0 i1).trans (Cert.FfnLastRefIdeal.At.result _ _ _ _ _ _ i0 i1).symm

end Cert.FfnLastIdeal.Step

end
-- ==== Proof.FfnLastClaim.lean ====
/- The claims about the last feed-forward call. -/
module

public import proofs.«01_k».proof.Defs
public import proofs.«01_k».proof.Proof.Gen.FfnLast.Frame
public import proofs.«01_k».proof.Proof.Gen.FfnLastIdeal.Value
public import proofs.«01_k».proof.Proof.Gen.FfnLastRefIdeal.Run
public import proofs.«01_k».proof.Proof.Gen.FfnLastRefIdeal.Read
public import proofs.«01_k».proof.Proof.FfnLastEquation
public import Idealize.ShloMosaic.Adequacy
public import Idealize.ShloMosaic.Init
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem

namespace Cert.Proof.FfnLast

/-- The kernel of the last feed-forward call runs, leaves its arguments unchanged and every semaphore at zero. -/
theorem kernel : quiescent_FfnLast (hFfnLast := Cert.FfnLast.Gen.facts) := fun m ρ _ => Cert.FfnLast.Gen.frame m ρ

/-- The same of its ideal form. -/
theorem ideal : quiescent_FfnLastIdeal (hFfnLastIdeal := Cert.FfnLastIdeal.Gen.facts) := fun m ρ _ => Cert.FfnLastIdeal.Gen.frame m ρ

/-- The reference runs, leaves its arguments unchanged and every semaphore at zero. -/
theorem reference : quiescent_FfnLastRefIdeal (hFfnLastRefIdeal := Cert.FfnLastRefIdeal.Gen.facts) := fun m ρ _ =>
  (θ_run Cert.FfnLastRefIdeal.defs _ _).mono (fun r h => ⟨fun c => (h c).2, sem_eq_zero_of_no_sems (by decide) r.2⟩)
    (Cert.FfnLastRefIdeal.Value.run (F := Ideal) m ρ)

/-- The ideal form is the kernel's own. -/
theorem preserves : preserves_FfnLast_FfnLastIdeal := trivial
theorem algebraic : algebraic_FfnLastIdeal_FfnLastRefIdeal (hFfnLastIdeal := Cert.FfnLastIdeal.Gen.facts) (hFfnLastRefIdeal := Cert.FfnLastRefIdeal.Gen.facts) := by
  intro m ρ m' ρ' _ hagree
  refine ⟨_, Cert.FfnLastIdeal.Value.run (F := Ideal) m ρ, ?_⟩
  refine (θ_run Cert.FfnLastRefIdeal.defs _ _).mono (fun _ h c => ⟨?_, (h c).2⟩) (Cert.FfnLastRefIdeal.Value.run (F := Ideal) m' ρ')
  rw [(h c).1, Cert.FfnLastRefIdeal.Read.val_main_v37_eq, (hagree c).1, (hagree c).2.1, (hagree c).2.2.1, (hagree c).2.2.2.1, (hagree c).2.2.2.2.1, (hagree c).2.2.2.2.2]
  exact (Cert.FfnLastIdeal.Step.equation m c).symm

end Cert.Proof.FfnLast

end
-- ==== Proof.GdnProjBlock.lean ====
/- The first projection: what the body leaves in its buffers at a grid point. -/
module

public import proofs.«01_k».proof.Proof.Gen.GdnProjIdeal.Value
public import proofs.«01_k».proof.Proof.FfnSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.GdnProjIdeal.Step

open Cert.GdnProjIdeal Cert.GdnProjIdeal.Gen Cert.GdnProjIdeal.Value Cert.FfnSpec

variable (m : (ℓ : Loc nD τ sig) → Buf (Elt Ideal) ℓ)

/-- One entry of a block's product, from the normalised row `xn`. -/
def project (xn : Fin 2048 → EReal) (w : FVec Ideal S2048x1024 .bf16) (d : Fin 1024) : EReal := ∑ e : Fin 2048, xn e * w (ix2 e d)

set_option maxHeartbeats 1600000 in
/-- At a first point of a run the scratch is left holding the block's rows, normalised. -/
theorem rows_A (c : Dev nD) (t : Fin cfg0.N) (acc) (h0 : t.val % 4 = 0) (y : S512x2048.Idx) :
    (stAt0 m c t.val t.isLt acc).2 y = rowOf (iblk m c 0 t) (iblk m c 1 t) (y 0) (y 1) := by
  suffices ∀ R, R = rowOf (iblk m c 0 t) (iblk m c 1 t) (y 0) (y 1) → (stAt0 m c t.val t.isLt acc).2 y = R from this _ rfl
  intro R hR
  rw [stAt0_A m c t acc h0]
  dsimp only
  frame_open
  simp (disch := decide) only [↓ View.readCov_skip, ↓ View.readCov_cons_toLoadRect, ↓ View.readCov_fill]
  frame_out
  clear h0
  simp only [rowOf, normed] at hR
  subst hR; open_payloads; pointwise []

set_option maxHeartbeats 1600000 in
/-- At a first point of a run the output block is left holding the rows' products. -/
theorem out_A (c : Dev nD) (t : Fin cfg0.N) (acc) (h0 : t.val % 4 = 0) (y : S512x1024.Idx) :
    (stAt0 m c t.val t.isLt acc).1 y = project (rowOf (iblk m c 0 t) (iblk m c 1 t) (y 0)) (X0_2 m c t) (y 1) := by
  suffices ∀ R, R = project (rowOf (iblk m c 0 t) (iblk m c 1 t) (y 0)) (X0_2 m c t) (y 1) → (stAt0 m c t.val t.isLt acc).1 y = R from this _ rfl
  intro R hR
  rw [stAt0_A m c t acc h0]
  dsimp only
  frame_open
  simp (disch := decide) only [↓ View.readCov_skip, ↓ View.readCov_cons_toLoadRect, ↓ View.readCov_fill]
  frame_out
  clear h0
  simp only [project, rowOf, normed] at hR
  subst hR; open_payloads; pointwise []

/-- At a later point the scratch stays as it was. -/
theorem rows_B (c : Dev nD) (t : Fin cfg0.N) (acc) (h0 : ¬t.val % 4 = 0) : (stAt0 m c t.val t.isLt acc).2 = acc.2 := by
  rw [stAt0_B m c t acc h0]
  rfl

set_option maxHeartbeats 1600000 in
/-- At a later point the output block is left holding the products of the scratch's rows. -/
theorem out_B (c : Dev nD) (t : Fin cfg0.N) (acc) (h0 : ¬t.val % 4 = 0) (y : S512x1024.Idx) :
    (stAt0 m c t.val t.isLt acc).1 y = project (fun e => acc.2 (ix2 (y 0) e)) (X0_2 m c t) (y 1) := by
  suffices ∀ R, R = project (fun e => acc.2 (ix2 (y 0) e)) (X0_2 m c t) (y 1) → (stAt0 m c t.val t.isLt acc).1 y = R from this _ rfl
  intro R hR
  rw [stAt0_B m c t acc h0]
  dsimp only
  frame_open
  simp (disch := decide) only [↓ View.readCov_skip, ↓ View.readCov_cons_toLoadRect, ↓ View.readCov_fill]
  frame_out
  clear h0
  simp only [project] at hR
  simp only [(Memref.isWhole_whole _).read_unread]; subst hR; open_payloads; pointwise []

end Cert.GdnProjIdeal.Step

end
-- ==== Proof.GdnProjEquation.lean ====
/- The first projection: its output array, and the reference's result. -/
module

public import proofs.«01_k».proof.Proof.GdnProjBlock
public import proofs.«01_k».proof.Proof.Gen.GdnProjRefIdeal.Read

@[expose] public section

set_option maxRecDepth 16384

noncomputable section

open Idealize.ShloMosaic Idealize.ShloMosaic.TcCoe Idealize.SL.Sem

namespace Cert.GdnProjIdeal.Step

open Cert.GdnProjIdeal Cert.GdnProjIdeal.Gen Cert.GdnProjIdeal.Value Cert.FfnSpec

variable (m : (ℓ : Loc nD τ sig) → Buf (Elt Ideal) ℓ)

/-- The block each window stages at a grid point. -/
theorem idx : ∀ t : Fin cfg0.N, win0_0.index t = ![t.val / 4, 0] ∧ win0_1.index t = ![0, 0] ∧ win0_2.index t = ![0, t.val % 4] :=
  (by decide +kernel : ∀ t : Fin grid0.N, _)

/-- The row of the array that row `r` of run `i`'s block is. -/
def place (i : ℕ) (r : Fin 512) : Fin 16384 := ⟨i % 32 * 512 + r.val, by omega⟩

/-- The normalised row `R` of the input, from the launch's memory. -/
abbrev xRow (c : Dev nD) (R : Fin 16384) : Fin 2048 → EReal :=
  rowOf (m ((c.tc : Thread nD τ).loc main_arg0)) (m ((c.tc : Thread nD τ).loc main_arg1)) R

/-- A block's input entry. -/
theorem input_block (c : Dev nD) (t : Fin cfg0.N) (r : Fin 512) (e : Fin 2048) :
    (show FVec Ideal S512x2048 .f32 from iblk m c 0 t) (ix2 r e)
      = (show FVec Ideal S16384x2048 .f32 from m ((c.tc : Thread nD τ).loc main_arg0)) (ix2 (place (t.val / 4) r) e) := by
  have ht : t.val < 128 := t.isLt
  blk_point [iblk, V, idx t, place]

/-- A block's norm weight. -/
theorem weight_block (c : Dev nD) (t : Fin cfg0.N) (e : Fin 2048) :
    (show FVec Ideal S1x2048 .f32 from iblk m c 1 t) (ix2 0 e)
      = (show FVec Ideal S1x2048 .f32 from m ((c.tc : Thread nD τ).loc main_arg1)) (ix2 0 e) := by
  blk_point [iblk, V, idx t]

/-- A block's projection weight. -/
theorem matrix_block (c : Dev nD) (t : Fin cfg0.N) (e : Fin 2048) (d : Fin 1024) :
    (show FVec Ideal S2048x1024 .bf16 from X0_2 m c t) (ix2 e d)
      = (show FVec Ideal S1x2048x5664 .f32 from m ((c.tc : Thread nD τ).loc main_arg2)) (ix3 0 e ⟨t.val % 4 * 1024 + d.val, by omega⟩) := by
  show X0_2 m c t (ix2 e d) = _
  unfold X0_2 Pipeline.Window.fill
  rw [dif_pos (moved0_2 t _)]
  blk_point [iblk, V, idx t]

/-- A block's row, normalised, is the array's. -/
theorem row_block (c : Dev nD) (t : Fin cfg0.N) (r : Fin 512) :
    rowOf (iblk m c 0 t) (iblk m c 1 t) r = xRow m c (place (t.val / 4) r) := by
  funext e
  exact congrArg₂ (fun x g => normed x g e) (funext fun e => input_block m c t r e) (funext fun e => weight_block m c t e)

/-- The scratch holds the run's rows, normalised, after every point of it. -/
theorem held (c : Dev nD) : ∀ (n : ℕ) (hn : n < cfg0.N) (r : Fin 512), (fun e => (outsAt0 m c n hn).2 (ix2 r e)) = xRow m c (place (n / 4) r)
  | 0, hn, r => by
    rw [outsAt0_zero]
    funext e
    exact (rows_A m c ⟨0, hn⟩ _ rfl (ix2 r e)).trans (congrFun (row_block m c ⟨0, hn⟩ r) e)
  | n + 1, hn, r => by
    rw [outsAt0_succ]
    by_cases h0 : (n + 1) % 4 = 0
    · funext e
      exact (rows_A m c ⟨n + 1, hn⟩ _ h0 (ix2 r e)).trans (congrFun (row_block m c ⟨n + 1, hn⟩ r) e)
    · have e : (n + 1) / 4 = n / 4 := by omega
      rw [e, ← held c n (Nat.lt_of_succ_lt hn) r]
      exact congrArg (fun (b : Vec Ideal S512x2048 .bf16) e => b (ix2 r e)) (rows_B m c ⟨n + 1, hn⟩ _ h0)

/-- What every point leaves in the output block. -/
theorem out_at (c : Dev nD) (n : ℕ) (hn : n < cfg0.N) (y : S512x1024.Idx) :
    (outsAt0 m c n hn).1 y = project (xRow m c (place (n / 4) (y 0))) (X0_2 m c ⟨n, hn⟩) (y 1) := by
  by_cases h0 : n % 4 = 0
  · have h : ∃ acc, outsAt0 m c n hn = stAt0 m c n hn acc := by
      cases n with
      | zero => exact ⟨_, outsAt0_zero m c hn⟩
      | succ k => exact ⟨_, outsAt0_succ m c k hn⟩
    obtain ⟨acc, h⟩ := h
    rw [h]
    exact (out_A m c ⟨n, hn⟩ acc h0 y).trans (congrArg (fun x => project x (X0_2 m c ⟨n, hn⟩) (y 1)) (row_block m c ⟨n, hn⟩ (y 0)))
  · cases n with
    | zero => exact absurd rfl h0
    | succ k =>
      rw [outsAt0_succ]
      refine (out_B m c ⟨k + 1, hn⟩ _ h0 y).trans (congrArg (fun x => project x (X0_2 m c ⟨k + 1, hn⟩) (y 1)) ?_)
      rw [held m c k _ (y 0), show (k + 1) / 4 = k / 4 by omega]

/-- The output array at an index is the point of its block, at its place in the block. -/
theorem array_eq (c : Dev nD) (i : S16384x4096.Idx) (n : ℕ) (h : run3Of i = n) (hn : n < cfg0.N) :
    G3 m c i = (outsAt0 m c n hn).1 (loc3Of i) := by
  subst h
  rw [outsAt0_sweep m c _ hn]
  unfold G3
  rw [dif_pos hn]

/-- The output array at row `R`, column `d`: the product of the normalised row. -/
theorem array_at (c : Dev nD) (R : Fin 16384) (d : Fin 4096) :
    G3 m c (ix2 R d) = (∑ e : Fin 2048, xRow m c R e
      * (show FVec Ideal S1x2048x5664 .f32 from m ((c.tc : Thread nD τ).loc main_arg2)) (ix3 0 e ⟨d.val, by omega⟩) : EReal) := by
  have hN : cfg0.N = 128 := N_0
  have hp : place ((R.val / 512 * 4 + d.val / 1024) / 4) (loc3Of (ix2 R d) 0) = R :=
    Fin.ext (by show (R.val / 512 * 4 + d.val / 1024) / 4 % 32 * 512 + R.val % 512 = R.val; omega)
  rw [array_eq m c _ (R.val / 512 * 4 + d.val / 1024) (by show 4 * (R.val / 512 - 0) + 1 * (d.val / 1024 - 0) = _; omega) (by omega), out_at, hp]
  unfold project
  refine Fin.sum_fin_congr fun e => Ideal.mul_congr rfl ((matrix_block m c _ e _).trans (congrArg _ ?_))
  refine congrArg (ix3 0 e) (Fin.ext ?_)
  show (R.val / 512 * 4 + d.val / 1024) % 4 * 1024 + d.val % 1024 = d.val
  omega

end Cert.GdnProjIdeal.Step

namespace Cert.GdnProjRefIdeal.At

open Cert.GdnProjRefIdeal Cert.GdnProjRefIdeal.Gen Cert.GdnProjRefIdeal.Read Cert.FfnSpec

variable (X : FVec Ideal S16384x2048 .f32) (G : FVec Ideal S1x2048 .f32) (W : FVec Ideal S1x2048x5664 .f32)

/-- The normalised input. -/
theorem row (R : Fin 16384) (e : Fin 2048) : val_main_v13 (F := Ideal) X G (ix2 R e) = rowOf X G R e := by
  pointwise [val_main_v13, val_main_v12, val_main_v11, val_main_v10, val_main_v9, val_main_v8, val_main_v7, val_main_v6, val_main_cst_1,
    val_main_v5, val_main_v4, val_main_cst_0, val_main_v3, val_main_v2, val_main_cst, val_main_v1, val_main_v0, rowOf, normed]

/-- The reference's result. -/
theorem result (R : Fin 16384) (d : Fin 4096) :
    val_main_v16 (F := Ideal) X G W (ix2 R d) = ∑ e : Fin 2048, rowOf X G R e * W (ix3 0 e ⟨d.val, by omega⟩) := by
  rw [val_main_v16_apply, val_main_v15_apply]
  refine Finset.sum_congr rfl fun e _ => Ideal.mul_congr ?_ ?_
  · exact (congrArg (val_main_v13 (F := Ideal) X G) (by idx_ext)).trans (row X G R e)
  · rw [val_main_v14_apply]
    exact congrArg W (by idx_ext)

end Cert.GdnProjRefIdeal.At

namespace Cert.GdnProjIdeal.Step

open Cert.GdnProjIdeal Cert.GdnProjIdeal.Gen Cert.GdnProjIdeal.Value

/-- The output array is the reference's function of the arguments. -/
theorem equation (m : (ℓ : Loc nD τ sig) → Buf (Elt Ideal) ℓ) (c : Dev nD) :
    G3 m c = Cert.GdnProjRefIdeal.Read.val_main_v16 (F := Ideal) (m ((c.tc : Thread nD τ).loc main_arg0)) (m ((c.tc : Thread nD τ).loc main_arg1))
      (m ((c.tc : Thread nD τ).loc main_arg2)) := by
  funext i
  idx_vars i
  exact (array_at m c i0 i1).trans (Cert.GdnProjRefIdeal.At.result _ _ _ i0 i1).symm

end Cert.GdnProjIdeal.Step

end
-- ==== Proof.GdnProjClaim.lean ====
/- The claims about the input projections of the delta-rule layer. -/
module

public import proofs.«01_k».proof.Defs
public import proofs.«01_k».proof.Proof.Gen.GdnProj.Frame
public import proofs.«01_k».proof.Proof.Gen.GdnProjIdeal.Value
public import proofs.«01_k».proof.Proof.Gen.GdnProjRefIdeal.Run
public import proofs.«01_k».proof.Proof.Gen.GdnProjRefIdeal.Read
public import proofs.«01_k».proof.Proof.GdnProjEquation
public import Idealize.ShloMosaic.Adequacy
public import Idealize.ShloMosaic.Init
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem

namespace Cert.Proof.GdnProj

/-- The kernel of the input projections of the delta-rule layer runs, leaves its arguments unchanged and every semaphore at zero. -/
theorem kernel : quiescent_GdnProj (hGdnProj := Cert.GdnProj.Gen.facts) := fun m ρ _ => Cert.GdnProj.Gen.frame m ρ

/-- The same of its ideal form. -/
theorem ideal : quiescent_GdnProjIdeal (hGdnProjIdeal := Cert.GdnProjIdeal.Gen.facts) := fun m ρ _ => Cert.GdnProjIdeal.Gen.frame m ρ

/-- The reference runs, leaves its arguments unchanged and every semaphore at zero. -/
theorem reference : quiescent_GdnProjRefIdeal (hGdnProjRefIdeal := Cert.GdnProjRefIdeal.Gen.facts) := fun m ρ _ =>
  (θ_run Cert.GdnProjRefIdeal.defs _ _).mono (fun r h => ⟨fun c => (h c).2, sem_eq_zero_of_no_sems (by decide) r.2⟩)
    (Cert.GdnProjRefIdeal.Value.run (F := Ideal) m ρ)

/-- The ideal form is the kernel's own. -/
theorem preserves : preserves_GdnProj_GdnProjIdeal := trivial
theorem algebraic : algebraic_GdnProjIdeal_GdnProjRefIdeal (hGdnProjIdeal := Cert.GdnProjIdeal.Gen.facts) (hGdnProjRefIdeal := Cert.GdnProjRefIdeal.Gen.facts) := by
  intro m ρ m' ρ' _ hagree
  refine ⟨_, Cert.GdnProjIdeal.Value.run (F := Ideal) m ρ, ?_⟩
  refine (θ_run Cert.GdnProjRefIdeal.defs _ _).mono (fun _ h c => ⟨?_, (h c).2⟩) (Cert.GdnProjRefIdeal.Value.run (F := Ideal) m' ρ')
  rw [(h c).1, Cert.GdnProjRefIdeal.Read.val_main_v16_eq, (hagree c).1, (hagree c).2.1, (hagree c).2.2]
  exact (Cert.GdnProjIdeal.Step.equation m c).symm

end Cert.Proof.GdnProj

end
-- ==== Proof.OutProjSpec.lean ====
/- The output projection's mixed row, as plain formulas over the extended reals. -/
module

public import proofs.«01_k».proof.Proof.AttnSpec

@[expose] public section

noncomputable section

namespace Cert.OutProjSpec

open Idealize.ShloMosaic

/-- A number times its logistic. -/
def silu (z : EReal) : EReal := z * Ideal.logistic z

/-- Entry `k` of the gated heads: the two directions' sum, normalised over the head that `k` lies in, times the gate. -/
def headAt (p q z : Fin 1024 → EReal) (g : Fin 128 → EReal) (k : Fin 1024) : EReal :=
  Cert.AttnSpec.normed (fun e => p ⟨k.val / 128 * 128 + e.val, by omega⟩ + q ⟨k.val / 128 * 128 + e.val, by omega⟩) g ⟨k.val % 128, by omega⟩
    * silu (z k)

/-- Entry `k` of the mixed row: the gated heads, and beside them the attention's. -/
def mixedAt (p q z a : Fin 1024 → EReal) (g : Fin 128 → EReal) (k : Fin 2048) : EReal :=
  if h : k.val < 1024 then headAt p q z g ⟨k.val, h⟩ else a ⟨k.val - 1024, by omega⟩

/-- The projection of the mixed row, added to the residual `x`. -/
def projected (x : EReal) (f w : Fin 2048 → EReal) : EReal := x + ∑ k : Fin 2048, f k * w k

end Cert.OutProjSpec

end
-- ==== Proof.OutProjBlock.lean ====
/- The output projection: what a point of the grid leaves in its output block. -/
module

public import proofs.«01_k».proof.Proof.Gen.OutProjIdeal.Value
public import proofs.«01_k».proof.Proof.Pieces
public import proofs.«01_k».proof.Proof.OutProjSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OutProjIdeal.Step

open Cert.OutProjIdeal Cert.OutProjIdeal.Gen Cert.OutProjIdeal.Value Cert.OutProjSpec

variable (m : (ℓ : Loc nD τ sig) → Buf (Elt Ideal) ℓ)

/-- The mixed rows of a block. -/
def mixedBlock (o : FVec Ideal S2x256x1024 .f32) (z : FVec Ideal S256x1024 .f32) (a : FVec Ideal S256x1024 .bf16) (g : FVec Ideal S1x128 .f32) :
    FVec Ideal S256x2048 .bf16 :=
  fun y => mixedAt (fun e => o (ix3 0 (y 0) e)) (fun e => o (ix3 1 (y 0) e)) (fun e => z (ix2 (y 0) e)) (fun e => a (ix2 (y 0) e))
    (fun d => g (ix2 0 d)) (y 1)

/-- The block's product and sum. -/
theorem product (x : FVec Ideal S256x2048 .f32) (f : FVec Ideal S256x2048 .bf16) (w : FVec Ideal S2048x2048 .bf16) (r : Fin 256) (d : Fin 2048) :
    k0_pay1 (F := Ideal) x f w (ix2 r d) = projected (x (ix2 r d)) (fun k => f (ix2 r k)) (fun k => w (ix2 k d)) := by
  pointwise [k0_pay1, projected]

set_option maxHeartbeats 1600000 in
/-- A point leaves its block of the output: the residual and the product of the mixed rows. -/
theorem out_at (c : Dev nD) (t : Fin cfg0.N) (r : Fin 256) (d : Fin 2048) :
    outsAt0 m c t (ix2 r d) = projected ((show FVec Ideal S256x2048 .f32 from iblk m c 3 t) (ix2 r d))
      (fun k => mixedBlock (iblk m c 0 t) (iblk m c 1 t) (iblk m c 2 t) (iblk m c 4 t) (ix2 r k))
      (fun k => (show FVec Ideal S2048x2048 .bf16 from iblk m c 5 t) (ix2 k d)) := by
  unfold outsAt0
  frame_out
  refine Eq.trans ?_ (product (iblk m c 3 t) (mixedBlock (iblk m c 0 t) (iblk m c 1 t) (iblk m c 2 t) (iblk m c 4 t)) (iblk m c 5 t) r d)
  refine congrArg (fun s => k0_pay1 (F := Ideal) (iblk m c 3 t) s (iblk m c 5 t) (ix2 r d)) ?_
  refine (Cert.Pieces.readCov_whole _ _ _ (by decide)).trans ?_
  funext y
  generalize hR : mixedBlock (iblk m c 0 t) (iblk m c 1 t) (iblk m c 2 t) (iblk m c 4 t) y = R
  canon_tiles x h using (View.cover_of_tiledBy _ ![256, 128] (by sl_kernel_rfl) y)
  all_goals (subst hR; unfold mixedBlock mixedAt)
  case piece0 => rw [dif_neg (by omega)]; open_payloads; pointwise []; blk_point []
  all_goals (rw [dif_pos (by omega)]; open_payloads; pointwise [headAt, Cert.AttnSpec.normed, silu]; blk_point [])

end Cert.OutProjIdeal.Step

end
-- ==== Proof.OutProjEquation.lean ====
/- The output projection: its output array, and the reference's result. -/
module

public import proofs.«01_k».proof.Proof.OutProjBlock
public import proofs.«01_k».proof.Proof.FfnSpec
public import proofs.«01_k».proof.Proof.Gen.OutProjRefIdeal.Read

@[expose] public section

set_option maxRecDepth 16384

noncomputable section

open Idealize.ShloMosaic Idealize.ShloMosaic.TcCoe Idealize.SL.Sem

namespace Cert.OutProjSpec

/-- The result at row `R`, column `d`, from the whole arrays. -/
def resultAt (O : FVec Ideal ⟨3, ![2, 16384, 1024]⟩ .f32) (Z : FVec Ideal ⟨2, ![16384, 4096]⟩ .f32) (A : FVec Ideal ⟨2, ![16384, 1024]⟩ .bf16)
    (H : FVec Ideal ⟨2, ![16384, 2048]⟩ .f32) (G : FVec Ideal ⟨2, ![1, 128]⟩ .f32) (W : FVec Ideal ⟨3, ![1, 2048, 2048]⟩ .f32)
    (R : Fin 16384) (d : Fin 2048) : EReal :=
  projected (H (ix2 R d))
    (mixedAt (fun e => O (ix3 0 R e)) (fun e => O (ix3 1 R e)) (fun e => Z (ix2 R ⟨3072 + e.val, by omega⟩)) (fun e => A (ix2 R e)) fun e => G (ix2 0 e))
    (fun k => W (ix3 0 k d))

end Cert.OutProjSpec

namespace Cert.OutProjRefIdeal.At

open Cert.OutProjRefIdeal Cert.OutProjRefIdeal.Gen Cert.OutProjRefIdeal.Read Cert.OutProjSpec

variable (O : FVec Ideal S2x16384x1024 .f32) (Z : FVec Ideal S16384x4096 .f32) (A : FVec Ideal S16384x1024 .bf16) (H : FVec Ideal S16384x2048 .f32)
  (G : FVec Ideal S1x128 .f32) (W : FVec Ideal S1x2048x2048 .f32)

/-- The two directions' sum, normalised over each head. -/
theorem head (R : Fin 16384) (h : Fin 8) (d : Fin 128) :
    val_main_v21 (F := Ideal) O G (ix3 R h d) = Cert.AttnSpec.normed
      (fun e => O (ix3 0 R ⟨h.val * 128 + e.val, by omega⟩) + O (ix3 1 R ⟨h.val * 128 + e.val, by omega⟩)) (fun e => G (ix2 0 e)) d := by
  pointwise [val_main_v21, val_main_v20, val_main_v19, val_main_v18, val_main_v17, val_main_v16, val_main_v15, val_main_v14, val_main_v13,
    val_main_v12, val_main_v11, val_main_v10, val_main_v9, val_main_v8, val_main_v5, val_main_v4, val_main_v3, val_main_v2, val_main_v1,
    val_main_v0, val_main_cst, val_main_cst_0, val_main_cst_1, Cert.AttnSpec.normed]

/-- The gate. -/
theorem gate (R : Fin 16384) (h : Fin 8) (d : Fin 128) :
    val_main_v22 (F := Ideal) Z (ix3 R h d) = silu (Z (ix2 R ⟨3072 + (h.val * 128 + d.val), by omega⟩)) := by
  have e : val_main_v7 (F := Ideal) Z (ix3 R h d) = Z (ix2 R ⟨3072 + (h.val * 128 + d.val), by omega⟩) := by
    pointwise [val_main_v7, val_main_v6]
  rw [val_main_v22_apply, val_main_call0_v5_apply, val_main_call0_v4_apply, val_main_call0_cst_0_apply, val_main_call0_v3_apply,
    val_main_call0_v2_apply, val_main_call0_cst_apply, val_main_call0_v1_apply, val_main_call0_v0_apply, e]
  generalize Z (ix2 R ⟨3072 + (h.val * 128 + d.val), by omega⟩) = a
  change a * Ideal.div (Ideal.ofBits .f32 0x3F800000#32) (Ideal.ofBits .f32 0x3F800000#32 + Ideal.exp (-a)) = _
  rw [Cert.FfnSpec.ofBits_one]
  rfl

/-- The mixed row. -/
theorem mixedRow (R : Fin 16384) (k : Fin 2048) : val_main_v26 (F := Ideal) O Z A G (ix2 R k)
    = mixedAt (fun e => O (ix3 0 R e)) (fun e => O (ix3 1 R e)) (fun e => Z (ix2 R ⟨3072 + e.val, by omega⟩)) (fun e => A (ix2 R e))
        (fun e => G (ix2 0 e)) k := by
  have e (j : Fin 1024) : val_main_v24 (F := Ideal) O Z G (ix2 R j)
      = headAt (fun e => O (ix3 0 R e)) (fun e => O (ix3 1 R e)) (fun e => Z (ix2 R ⟨3072 + e.val, by omega⟩)) (fun e => G (ix2 0 e)) j := by
    rw [val_main_v24_apply]
    refine (congrArg (val_main_v23 (F := Ideal) O Z G) (by idx_ext :
      _ = ix3 R (⟨j.val / 128, by omega⟩ : Fin 8) (⟨j.val % 128, by omega⟩ : Fin 128))).trans ?_
    rw [val_main_v23_apply, head, gate]
    refine Ideal.mul_congr rfl (congrArg (fun x => silu (Z (ix2 R x))) (Fin.ext ?_))
    show 3072 + (j.val / 128 * 128 + j.val % 128) = 3072 + j.val
    omega
  pointwise [val_main_v26, mixedAt]
  split
  · exact e _
  · rw [val_main_v25_apply]
    rfl

/-- The reference's result. -/
theorem result (R : Fin 16384) (d : Fin 2048) : val_main_v29 (F := Ideal) O Z A H G W (ix2 R d) = resultAt O Z A H G W R d := by
  rw [val_main_v29_apply, val_main_v28_apply]
  refine congrArg (H (ix2 R d) + ·) (Finset.sum_congr rfl fun k _ => Ideal.mul_congr ?_ ?_)
  · exact (congrArg (val_main_v26 (F := Ideal) O Z A G) (by idx_ext)).trans (mixedRow O Z A G R k)
  · rw [val_main_v27_apply]
    exact congrArg W (by idx_ext)

end Cert.OutProjRefIdeal.At

namespace Cert.OutProjIdeal.Step

open Cert.OutProjIdeal Cert.OutProjIdeal.Gen Cert.OutProjIdeal.Value Cert.OutProjSpec

variable (m : (ℓ : Loc nD τ sig) → Buf (Elt Ideal) ℓ)

/-- The block each window stages at a grid point. -/
theorem idx : ∀ t : Fin cfg0.N, win0_0.index t = ![0, t.val, 0] ∧ win0_1.index t = ![t.val, 3] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- The row of the array that row `r` of point `t`'s block is. -/
def place (t : Fin cfg0.N) (r : Fin 256) : Fin 16384 := ⟨t.val * 256 + r.val, by have : t.val < 64 := t.isLt; omega⟩

/-- What a point leaves in its block is the result at the block's rows. -/
theorem block (c : Dev nD) (t : Fin cfg0.N) (r : Fin 256) (d : Fin 2048) :
    outsAt0 m c t (ix2 r d) = resultAt (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (place t r) d := by
  rw [out_at]
  have e0 (s : Fin 2) (e : Fin 1024) : (show FVec Ideal S2x256x1024 .f32 from iblk m c 0 t) (ix3 s r e)
      = m ((c.tc : Thread nD τ).loc main_arg0) (ix3 s (place t r) e) := by
    blk_point [iblk, V, idx t, place]
  have e1 (e : Fin 1024) : (show FVec Ideal S256x1024 .f32 from iblk m c 1 t) (ix2 r e)
      = m ((c.tc : Thread nD τ).loc main_arg1) (ix2 (place t r) ⟨3072 + e.val, by omega⟩) := by
    blk_point [iblk, V, idx t, place]
  have e2 (e : Fin 1024) : (show FVec Ideal S256x1024 .bf16 from iblk m c 2 t) (ix2 r e)
      = m ((c.tc : Thread nD τ).loc main_arg2) (ix2 (place t r) e) := by
    blk_point [iblk, V, idx t, place]
  have e3 : (show FVec Ideal S256x2048 .f32 from iblk m c 3 t) (ix2 r d)
      = m ((c.tc : Thread nD τ).loc main_arg3) (ix2 (place t r) d) := by
    blk_point [iblk, V, idx t, place]
  have e4 (e : Fin 128) : (show FVec Ideal S1x128 .f32 from iblk m c 4 t) (ix2 0 e)
      = m ((c.tc : Thread nD τ).loc main_arg4) (ix2 0 e) := by
    blk_point [iblk, V, idx t, place]
  have e5 (k : Fin 2048) : (show FVec Ideal S2048x2048 .bf16 from iblk m c 5 t) (ix2 k d)
      = m ((c.tc : Thread nD τ).loc main_arg5) (ix3 0 k d) := by
    blk_point [iblk, V, idx t, place]
  unfold resultAt
  rw [e3, funext e5, ← funext (e0 0), ← funext (e0 1), ← funext e1, ← funext e2, ← funext e4]
  rfl

/-- The output array is the reference's function of the arguments. -/
theorem equation (c : Dev nD) : (dats m 0 c).arrAt 6 cfg0.N
    = Cert.OutProjRefIdeal.Read.val_main_v29 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine (dats m 0 c).arrAt_eq_of_covers 6 _ (by decide +kernel) fun t _ y => ?_
  blk_simp
  rw [after0_6]
  idx_vars y
  refine (block m c t y0 y1).trans ((Cert.OutProjRefIdeal.At.result _ _ _ _ _ _ _ _).symm.trans (congrArg _ ?_))
  blk_ext [idx t, place]

end Cert.OutProjIdeal.Step

end
-- ==== Proof.OutProjClaim.lean ====
/- The claims about the output projection. -/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProjEquation
public import Idealize.ShloMosaic.Adequacy
public import Idealize.ShloMosaic.Init
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem

namespace Cert.Proof.OutProj

/-- The kernel of the output projection runs, leaves its arguments unchanged and every semaphore at zero. -/
theorem kernel : quiescent_OutProj (hOutProj := Cert.OutProj.Gen.facts) := fun m ρ _ => Cert.OutProj.Gen.frame m ρ

/-- The same of its ideal form. -/
theorem ideal : quiescent_OutProjIdeal (hOutProjIdeal := Cert.OutProjIdeal.Gen.facts) := fun m ρ _ => Cert.OutProjIdeal.Gen.frame m ρ

/-- The reference runs, leaves its arguments unchanged and every semaphore at zero. -/
theorem reference : quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The ideal form is the kernel's own. -/
theorem preserves : preserves_OutProj_OutProjIdeal := trivial

/-- The output projection's result is the reference's, for every input. -/
theorem algebraic : algebraic_OutProjIdeal_OutProjRefIdeal (hOutProjIdeal := Cert.OutProjIdeal.Gen.facts) (hOutProjRefIdeal := Cert.OutProjRefIdeal.Gen.facts) := by
  intro m ρ m' ρ' _ hagree
  refine ⟨_, Cert.OutProjIdeal.Value.run_blocks (F := Ideal) m ρ, ?_⟩
  refine (θ_run Cert.OutProjRefIdeal.defs _ _).mono (fun _ h c => ⟨?_, (h c).2⟩) (Cert.OutProjRefIdeal.Value.run (F := Ideal) m' ρ')
  rw [(h c).1, Cert.OutProjRefIdeal.Read.val_main_v29_eq, (hagree c).1, (hagree c).2.1, (hagree c).2.2.1, (hagree c).2.2.2.1,
    (hagree c).2.2.2.2.1, (hagree c).2.2.2.2.2]
  exact (Cert.OutProjIdeal.Step.equation m c).symm

end Cert.Proof.OutProj

end
-- ==== Proof.AttnProjSpec.lean ====
/- The attention layer's projections, rotary positions and gates, as plain formulas over the extended reals. -/
module

public import proofs.«01_k».proof.Proof.AttnSpec
public import proofs.«01_k».proof.Proof.FfnSpec

@[expose] public section

noncomputable section

namespace Cert.AttnProjSpec

open Idealize.ShloMosaic

/-- A row times a column of the weights. -/
def product (x w : Fin 2048 → EReal) : EReal := ∑ e : Fin 2048, x e * w e

/-- A head's row turned by tables: itself, the lanes before and the lanes behind, each times its table. -/
def turned (y c lo hi : Fin 128 → EReal) (d : Fin 128) : EReal :=
  y d * c d + y ⟨(d.val + 96) % 128, by omega⟩ * hi d + y ⟨(d.val + 32) % 128, by omega⟩ * lo d

/-- A head's row from the normalised input row `x` and the head's columns of the weights, normalised. -/
def headRow (x : Fin 2048 → EReal) (w : Fin 128 → Fin 2048 → EReal) (g : Fin 128 → EReal) : Fin 128 → EReal :=
  Cert.AttnSpec.normed (fun d => product x (w d)) g

/-- The softplus. -/
def softplus (t : EReal) : EReal := max t 0 + Ideal.log1p (Ideal.exp (-max t (-t)))

/-- The frequency of a lane. -/
def freq (k : Nat) : EReal := Ideal.pow (Ideal.ofBits .f32 1176256512#32)
  (Ideal.div (-(Ideal.ofBits .f32 1073741824#32 * FloatOps.sitofp (F := Ideal) .f32 (BitVec.ofNat 32 k))) (Ideal.ofBits .f32 1115684864#32))

/-- The angle of a place in the grid at a lane. -/
def angle (n k : Nat) : EReal := FloatOps.sitofp (F := Ideal) .f32 (BitVec.ofNat 32 n) * freq k

/-- The angle that row `R` turns lane `d` by: of the row in the grid in the first 64 lanes, of the column in the others. -/
def turn (R d : Nat) : EReal := angle (if d < 64 then R / 64 else R % 64) (d % 32)

/-- What the lane 32 further on is multiplied with. -/
def sinLo (R d : Nat) : EReal := if d % 64 < 32 then -Ideal.sin (turn R d) else 0

/-- What the lane 32 further back is multiplied with. -/
def sinHi (R d : Nat) : EReal := if d % 64 < 32 then 0 else Ideal.sin (turn R d)

/-- Pairs of lanes turned by their angles. -/
def roped (y : Fin 128 → EReal) (R : Nat) (d : Fin 128) : EReal :=
  if d.val % 64 < 32 then y d * Ideal.cos (turn R d.val) - y ⟨(d.val + 32) % 128, by omega⟩ * Ideal.sin (turn R d.val)
  else y d * Ideal.cos (turn R d.val) + y ⟨(d.val + 96) % 128, by omega⟩ * Ideal.sin (turn R d.val)

/-- The three products with the tables turn the lanes. -/
theorem turned_tables (y : Fin 128 → EReal) (R : Nat) (d : Fin 128) :
    turned y (fun d => Ideal.cos (turn R d.val)) (fun d => sinLo R d.val) (fun d => sinHi R d.val) d = roped y R d := by
  unfold turned roped sinLo sinHi
  dsimp only
  split
  · rw [mul_zero, add_zero, mul_neg, sub_eq_add_neg]
  · rw [mul_zero, add_zero]

/-- Half is the logistic value of zero. -/
theorem logistic_zero : Ideal.logistic 0 = Ideal.ofBits .f32 0x3F000000#32 := by
  have h1 : Ideal.logistic 0 = Ideal.div 1 (1 + Ideal.exp (-((0 : ℝ) : EReal))) := rfl
  have h2 : Ideal.exp (-((0 : ℝ) : EReal)) = ((1 : ℝ) : EReal) := by
    rw [← EReal.coe_neg, neg_zero]
    show ((Real.exp 0 : ℝ) : EReal) = _
    rw [Real.exp_zero]
  have h3 : (1 : EReal) + ((1 : ℝ) : EReal) = ((2 : ℝ) : EReal) := by
    rw [← EReal.coe_one, ← EReal.coe_add]; norm_num
  rw [h1, h2, h3]
  simp [Ideal.ofBits, Ideal.ieee, Ideal.div, -EReal.coe_mul]
  rw [← EReal.coe_inv]
  congr 1
  norm_num

/-- The product with a column of zeros. -/
theorem product_zero (x : Fin 2048 → EReal) : product x (fun _ => 0) = 0 := by
  unfold product
  simp only [mul_zero, Finset.sum_const_zero]

/-- The gates of a row: the decays of both directions, the mixing weights, and the padding. -/
def gates (x : Fin 2048 → EReal) (w : Fin 2048 → Fin 5664 → EReal) (a1 a2 b1 b2 : Fin 8 → EReal) (d : Fin 128) : EReal :=
  if h : d.val < 8 then -Ideal.exp (a1 ⟨d.val, h⟩) * softplus (product x (fun e => w e ⟨4096 + d.val, by omega⟩) + b1 ⟨d.val, h⟩)
  else if h : d.val < 16 then
    -Ideal.exp (a2 ⟨d.val - 8, by omega⟩) * softplus (product x (fun e => w e ⟨4096 + d.val, by omega⟩) + b2 ⟨d.val - 8, by omega⟩)
  else if h : d.val < 32 then Ideal.logistic (product x (fun e => w e ⟨4096 + d.val, by omega⟩))
  else Ideal.ofBits .f32 0x3F000000#32

/-- The gates from tables that are filled up with zeros. -/
theorem gates_padded (x : Fin 2048 → EReal) (w : Fin 2048 → Fin 5664 → EReal) (a1 a2 b1 b2 : Fin 8 → EReal) (d : Fin 128)
    (W : Fin 2048 → EReal) (A B : EReal)
    (hW : ∀ e, W e = if h : d.val < 32 then w e ⟨4096 + d.val, by omega⟩ else 0)
    (hA : A = if h : d.val < 8 then a1 ⟨d.val, h⟩ else if h : d.val < 16 then a2 ⟨d.val - 8, by omega⟩ else 0)
    (hB : B = if h : d.val < 8 then b1 ⟨d.val, h⟩ else if h : d.val < 16 then b2 ⟨d.val - 8, by omega⟩ else 0) :
    (if d.val < 16 then (0 - Ideal.exp A) * softplus (product x W + B) else Ideal.logistic (product x W)) = gates x w a1 a2 b1 b2 d := by
  rw [show W = _ from funext hW, hA, hB, zero_sub]
  unfold gates
  by_cases h8 : d.val < 8
  · simp only [dif_pos h8, dif_pos (show d.val < 32 by omega), if_pos (show d.val < 16 by omega)]
  by_cases h16 : d.val < 16
  · simp only [dif_neg h8, dif_pos h16, dif_pos (show d.val < 32 by omega), if_pos h16]
  by_cases h32 : d.val < 32
  · simp only [dif_neg h8, dif_neg h16, dif_pos h32, if_neg h16]
  · simp only [dif_neg h8, dif_neg h16, dif_neg h32, if_neg h16, product_zero, logistic_zero]

/-- A pair's difference depends on its places' numbers alone. -/
theorem pair_sub (y : Fin 128 → EReal) {a a' b b' : Fin 128} {n n' k k' : Nat} (ha : a.val = a'.val) (hb : b.val = b'.val) (hn : n = n') (hk : k = k') :
    y a * Ideal.cos (angle n k) - y b * Ideal.sin (angle n k) = y a' * Ideal.cos (angle n' k') - y b' * Ideal.sin (angle n' k') := by
  rw [Fin.ext ha, Fin.ext hb, hn, hk]

theorem pair_add (y : Fin 128 → EReal) {a a' b b' : Fin 128} {n n' k k' : Nat} (ha : a.val = a'.val) (hb : b.val = b'.val) (hn : n = n') (hk : k = k') :
    y a * Ideal.cos (angle n k) + y b * Ideal.sin (angle n k) = y a' * Ideal.cos (angle n' k') + y b' * Ideal.sin (angle n' k') := by
  rw [Fin.ext ha, Fin.ext hb, hn, hk]

/-- The turned lanes, quarter by quarter. -/
theorem roped_parts (y : Fin 128 → EReal) (R : Nat) (d : Fin 128) :
    (if h1 : d.val < 64 then
      if h2 : d.val < 32 then y d * Ideal.cos (angle (R / 64) d.val) - y ⟨32 + d.val, by omega⟩ * Ideal.sin (angle (R / 64) d.val)
      else y ⟨32 + (d.val - 32), by omega⟩ * Ideal.cos (angle (R / 64) (d.val - 32)) + y ⟨d.val - 32, by omega⟩ * Ideal.sin (angle (R / 64) (d.val - 32))
    else
      if h2 : d.val - 64 < 32 then
        y ⟨64 + (d.val - 64), by omega⟩ * Ideal.cos (angle (R % 64) (d.val - 64)) - y ⟨64 + (32 + (d.val - 64)), by omega⟩ * Ideal.sin (angle (R % 64) (d.val - 64))
      else y ⟨64 + (32 + (d.val - 64 - 32)), by omega⟩ * Ideal.cos (angle (R % 64) (d.val - 64 - 32))
        + y ⟨64 + (d.val - 64 - 32), by omega⟩ * Ideal.sin (angle (R % 64) (d.val - 64 - 32))) = roped y R d := by
  unfold roped turn
  by_cases h1 : d.val < 64
  · rw [dif_pos h1]
    by_cases h2 : d.val < 32
    · rw [dif_pos h2, if_pos (show d.val % 64 < 32 by omega)]
      exact pair_sub y rfl (by dsimp only; omega) (if_pos h1).symm (by omega)
    · rw [dif_neg h2, if_neg (show ¬d.val % 64 < 32 by omega)]
      exact pair_add y (by dsimp only; omega) (by dsimp only; omega) (if_pos h1).symm (by omega)
  · rw [dif_neg h1]
    by_cases h2 : d.val - 64 < 32
    · rw [dif_pos h2, if_pos (show d.val % 64 < 32 by omega)]
      exact pair_sub y (by dsimp only; omega) (by dsimp only; omega) (if_neg h1).symm (by omega)
    · rw [dif_neg h2, if_neg (show ¬d.val % 64 < 32 by omega)]
      exact pair_add y (by dsimp only; omega) (by dsimp only; omega) (if_neg h1).symm (by omega)

end Cert.AttnProjSpec

end
-- ==== Proof.AttnProjBlock.lean ====
/- The attention layer's projections: what the body leaves in its output blocks at a grid point. -/
module

public import proofs.«01_k».proof.Proof.AttnProjSpec
public import proofs.«01_k».proof.Proof.Gen.AttnProjIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.AttnProjIdeal.Step

open Cert.AttnProjIdeal Cert.AttnProjIdeal.Gen Cert.AttnProjIdeal.Value Cert.AttnProjSpec

variable (x0 : Vec Ideal S256x2048 .f32) (x1 : Vec Ideal S1x2048 .f32) (x2 : Vec Ideal S2048x1536 .bf16) (x3 : Vec Ideal S2048x128 .bf16)
  (x4 x5 : Vec Ideal S1x128 .f32) (x6 x7 x8 : Vec Ideal S256x128 .f32) (x9 x10 : Vec Ideal S1x128 .f32)

/-- The normalised rows. -/
theorem rows_at (r : Fin 256) (e : Fin 2048) :
    k0_pay34 (F := Ideal) x0 x1 x2 x3 x4 x5 x6 x7 x8 x9 x10 (ix2 r e) = Cert.FfnSpec.rowOf x0 x1 r e := by
  pointwise [k0_pay34, k0_pay2, Cert.FfnSpec.rowOf, Cert.FfnSpec.normed]

/-- A head's columns of the product, over the root of their mean square. -/
def scaled (X : FVec Ideal S256x2048 .bf16) (v22 : Vec Ideal S2048x128 .bf16) : FVec Ideal S256x128 .f32 :=
  have v23 : FVec Ideal S2048x128 .bf16 := shapeCast S2048x128 v22 shapeCasts_S2048x128_S2048x128
  have cst_13 : FVec Ideal S256x128 .f32 := constant S256x128 .f32 0x00000000#32
  have v24 : FVec Ideal S256x128 .f32 := matmul dot_S256x2048_S2048x128_S256x128_1_0_0_1_n_n none X v23 cst_13
  have v27 : FVec Ideal S256x128 .f32 := mulf v24 v24
  have v28 : FVec Ideal S256 .f32 := multiReduction .add [1] S256 v27 0x00000000#32 reduces_S256x128_S256 (.inl rfl) rfl
  have v29 : FVec Ideal S256x1 .f32 := shapeCast S256x1 v28 shapeCasts_S256_S256x1
  have cst_17 : Ideal .f32 := Scalar.ofBits .f32 0x43000000#32
  have v30 : FVec Ideal S256x1 .f32 := broadcast S256x1 cst_17
  have v31 : FVec Ideal S256x1 .f32 := divf v29 v30
  have cst_18 : Ideal .f32 := Scalar.ofBits .f32 0x358637BD#32
  have v32 : FVec Ideal S256x1 .f32 := broadcast S256x1 cst_18
  have v33 : FVec Ideal S256x1 .f32 := addf v31 v32
  have v34 : FVec Ideal S256x1 .f32 := rsqrt v33
  have v35 : FVec Ideal S256x128 .f32 := broadcastTo S256x128 v34 broadcasts_S256x1_S256x128
  have v36 : FVec Ideal S256x128 .f32 := mulf v24 v35
  v36

set_option maxHeartbeats 1600000 in
/-- The query heads. -/
theorem query_at (r : Fin 256) (k : Fin 1024) : out0_11 (F := Ideal) x0 x1 x2 x3 x4 x5 x6 x7 x8 x9 x10 (ix2 r k)
    = turned (headRow (Cert.FfnSpec.rowOf x0 x1 r) (fun d e => x2 (ix2 e ⟨k.val / 128 * 128 + d.val, by omega⟩)) (fun d => x4 (ix2 0 d)))
        (fun d => x6 (ix2 r d)) (fun d => x7 (ix2 r d)) (fun d => x8 (ix2 r d)) ⟨k.val % 128, by omega⟩ := by
  unfold out0_11
  rw [show k0_pay6 (F := Ideal) (View.ld x0 r0_0) (View.ld x1 r0_1) (View.ld x2 r0_3)
    = scaled (k0_pay34 x0 x1 x2 x3 x4 x5 x6 x7 x8 x9 x10) (View.ld x2 r0_3) from rfl]
  generalize hX : k0_pay34 (F := Ideal) x0 x1 x2 x3 x4 x5 x6 x7 x8 x9 x10 = X
  rw [show Cert.FfnSpec.rowOf x0 x1 r = fun e => X (ix2 r e) from funext fun e => (hX ▸ (rows_at x0 x1 x2 x3 x4 x5 x6 x7 x8 x9 x10 r e).symm)]
  clear hX
  generalize hR : turned _ _ _ _ _ = R
  canon_tiles x h
  all_goals (change r.val = _ at h0; change k.val = _ at h1; subst hR; unfold k0_pay35 k0_pay36 k0_pay37; open_payloads; pointwise [scaled, turned, headRow, product, Cert.AttnSpec.normed]; blk_point [])

set_option maxHeartbeats 1600000 in
/-- The key heads. -/
theorem key_at (r : Fin 256) (k : Fin 256) : out0_12 (F := Ideal) x0 x1 x2 x3 x4 x5 x6 x7 x8 x9 x10 (ix2 r k)
    = turned (headRow (Cert.FfnSpec.rowOf x0 x1 r) (fun d e => x2 (ix2 e ⟨1024 + (k.val / 128 * 128 + d.val), by omega⟩)) (fun d => x5 (ix2 0 d)))
        (fun d => x6 (ix2 r d)) (fun d => x7 (ix2 r d)) (fun d => x8 (ix2 r d)) ⟨k.val % 128, by omega⟩ := by
  unfold out0_12
  generalize hX : k0_pay34 (F := Ideal) x0 x1 x2 x3 x4 x5 x6 x7 x8 x9 x10 = X
  rw [show Cert.FfnSpec.rowOf x0 x1 r = fun e => X (ix2 r e) from funext fun e => (hX ▸ (rows_at x0 x1 x2 x3 x4 x5 x6 x7 x8 x9 x10 r e).symm)]
  clear hX
  generalize hR : turned _ _ _ _ _ = R
  canon_tiles x h
  all_goals (change r.val = _ at h0; change k.val = _ at h1; subst hR; unfold k0_pay35 k0_pay36 k0_pay37; open_payloads; pointwise [scaled, turned, headRow, product, Cert.AttnSpec.normed]; blk_point [])

/-- The value columns. -/
theorem value_at (r : Fin 256) (d : Fin 256) : out0_13 (F := Ideal) x0 x1 x2 x3 x4 x5 x6 x7 x8 x9 x10 (ix2 r d)
    = product (Cert.FfnSpec.rowOf x0 x1 r) (fun e => x2 (ix2 e ⟨1280 + d.val, by omega⟩)) := by
  unfold out0_13
  generalize hX : k0_pay34 (F := Ideal) x0 x1 x2 x3 x4 x5 x6 x7 x8 x9 x10 = X
  rw [show Cert.FfnSpec.rowOf x0 x1 r = fun e => X (ix2 r e) from funext fun e => (hX ▸ (rows_at x0 x1 x2 x3 x4 x5 x6 x7 x8 x9 x10 r e).symm)]
  clear hX
  frame_out
  pointwise [k0_pay30, product]

/-- The comparison of a lane's number with 16. -/
theorem lane_lt (d : Fin 128) : IntOp.cmpi .slt (BitVec.ofNat 32 d.val) 16#32 = if d.val < 16 then 1#1 else 0#1 :=
  (by decide +kernel : ∀ d : Fin 128, IntOp.cmpi .slt (BitVec.ofNat 32 d.val) 16#32 = if d.val < 16 then 1#1 else 0#1) d

/-- The gates. -/
theorem gate_at (r : Fin 256) (d : Fin 128) : out0_14 (F := Ideal) x0 x1 x2 x3 x4 x5 x6 x7 x8 x9 x10 (ix2 r d)
    = if d.val < 16 then (0 - Ideal.exp (x9 (ix2 0 d))) * softplus (product (Cert.FfnSpec.rowOf x0 x1 r) (fun e => x3 (ix2 e d)) + x10 (ix2 0 d))
      else Ideal.logistic (product (Cert.FfnSpec.rowOf x0 x1 r) (fun e => x3 (ix2 e d))) := by
  unfold out0_14
  generalize hX : k0_pay34 (F := Ideal) x0 x1 x2 x3 x4 x5 x6 x7 x8 x9 x10 = X
  rw [show Cert.FfnSpec.rowOf x0 x1 r = fun e => X (ix2 r e) from funext fun e => (hX ▸ (rows_at x0 x1 x2 x3 x4 x5 x6 x7 x8 x9 x10 r e).symm)]
  clear hX
  frame_out
  pointwise [k0_pay1, k0_pay31, k0_pay32, k0_pay33, product, softplus]
  rw [lane_lt, ← zero_sub (max _ _)]
  split <;> rfl

end Cert.AttnProjIdeal.Step

end
-- ==== Proof.AttnProjWords.lean ====
/- The attention layer's projections: the position of a row in the grid, as words. -/
module

public import proofs.«01_k».proof.Proof.AttnProjSpec
public import Idealize.ShloMosaic.Lib.Pointwise

@[expose] public section

set_option maxRecDepth 16384

open Idealize.ShloMosaic Idealize.ShloMosaic.TcCoe Idealize.SL.Sem

namespace Cert.AttnProjSpec

/-- The quotient of a row's number by 64, as the host's words compute it. -/
def rowWord (n : Nat) : BitVec 32 := Scalar.select
        (IntOp.andi
          (IntOp.cmpi CmpIPredicate.ne
            (if BitVec.ofNat 32 n = 0 then 0 else if (BitVec.ofNat 32 n).msb = true then -1 else 1)
            (if (64#32) = 0 then (0 : BitVec 32)
            else if BitVec.msb (64#32) = true then -1 else 1))
          (IntOp.cmpi CmpIPredicate.ne
            (IntOp.remsi ArithUnit.host (BitVec.ofNat 32 n) 64#32) 0#32))
        (IntOp.subi (IntOp.divsi ArithUnit.host (BitVec.ofNat 32 n) 64#32) 1#32)
        (IntOp.divsi ArithUnit.host (BitVec.ofNat 32 n) 64#32)

theorem row_word (R : Fin 16384) : rowWord R.val = BitVec.ofNat 32 (R.val / 64) := by
  revert R
  decide +kernel

/-- The remainder of a row's number by 64. -/
def colWord (n : Nat) : BitVec 32 := Scalar.select
        (IntOp.andi
          (IntOp.cmpi CmpIPredicate.ne
            (IntOp.cmpi CmpIPredicate.slt
              (IntOp.remsi ArithUnit.host (BitVec.ofNat 32 n)
                (Scalar.select (IntOp.cmpi CmpIPredicate.eq 64#32 0#32) (1#32)
                  64#32))
              0#32)
            (IntOp.cmpi CmpIPredicate.slt
              (Scalar.select (IntOp.cmpi CmpIPredicate.eq 64#32 0#32) (1#32)
                64#32)
              0#32))
          (IntOp.cmpi CmpIPredicate.ne
            (IntOp.remsi ArithUnit.host (BitVec.ofNat 32 n)
              (Scalar.select (IntOp.cmpi CmpIPredicate.eq 64#32 0#32) (1#32)
                64#32))
            0#32))
        (IntOp.addi
          (IntOp.remsi ArithUnit.host (BitVec.ofNat 32 n)
            (Scalar.select (IntOp.cmpi CmpIPredicate.eq 64#32 0#32) (1#32)
              64#32))
          (Scalar.select (IntOp.cmpi CmpIPredicate.eq 64#32 0#32) (1#32)
            64#32))
        (IntOp.remsi ArithUnit.host (BitVec.ofNat 32 n)
          (Scalar.select (IntOp.cmpi CmpIPredicate.eq 64#32 0#32) (1#32)
            64#32))

theorem col_word (R : Fin 16384) : colWord R.val = BitVec.ofNat 32 (R.val % 64) := by
  revert R
  decide +kernel

theorem turn_row (R : Fin 16384) (d k : Nat) (h : d < 64) (hk : k = d % 32) :
    FloatOps.sitofp (F := Ideal) .f32 (rowWord R.val) * freq k = turn R.val d := by
  unfold turn
  rw [row_word, hk, if_pos h]
  rfl

theorem turn_col (R : Fin 16384) (d k : Nat) (h : ¬d < 64) (hk : k = d % 32) :
    FloatOps.sitofp (F := Ideal) .f32 (colWord R.val) * freq k = turn R.val d := by
  unfold turn
  rw [col_word, hk, if_neg h]
  rfl

theorem sinLo_row (R : Fin 16384) (d k : Nat) (h : d < 64) (h' : d % 64 < 32) (hk : k = d % 32) :
    -Ideal.sin (FloatOps.sitofp (F := Ideal) .f32 (rowWord R.val) * freq k) = sinLo R.val d := by
  rw [turn_row R d k h hk, sinLo, if_pos h']

theorem sinLo_col (R : Fin 16384) (d k : Nat) (h : ¬d < 64) (h' : d % 64 < 32) (hk : k = d % 32) :
    -Ideal.sin (FloatOps.sitofp (F := Ideal) .f32 (colWord R.val) * freq k) = sinLo R.val d := by
  rw [turn_col R d k h hk, sinLo, if_pos h']

theorem sinHi_row (R : Fin 16384) (d k : Nat) (h : d < 64) (h' : ¬d % 64 < 32) (hk : k = d % 32) :
    Ideal.sin (FloatOps.sitofp (F := Ideal) .f32 (rowWord R.val) * freq k) = sinHi R.val d := by
  rw [turn_row R d k h hk, sinHi, if_neg h']

theorem sinHi_col (R : Fin 16384) (d k : Nat) (h : ¬d < 64) (h' : ¬d % 64 < 32) (hk : k = d % 32) :
    Ideal.sin (FloatOps.sitofp (F := Ideal) .f32 (colWord R.val) * freq k) = sinHi R.val d := by
  rw [turn_col R d k h hk, sinHi, if_neg h']

theorem sinLo_zero (R d : Nat) (h : ¬d % 64 < 32) : 0 = sinLo R d := by rw [sinLo, if_neg h]

theorem sinHi_zero (R d : Nat) (h : d % 64 < 32) : 0 = sinHi R d := by rw [sinHi, if_pos h]

end Cert.AttnProjSpec
-- ==== Proof.AttnProjTables.lean ====
/- The attention layer's projections: the blocks that the host code prepares, as reads of the arguments. -/
module

public import proofs.«01_k».proof.Proof.AttnProjWords
public import proofs.«01_k».proof.Proof.Gen.AttnProjIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.AttnProjIdeal.Step

open Cert.AttnProjIdeal Cert.AttnProjIdeal.Gen Cert.AttnProjIdeal.Value Cert.AttnProjSpec

variable (m : (ℓ : Loc nD τ sig) → Buf (Elt Ideal) ℓ)

/-- The block each window stages at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0] :=
  (by decide +kernel : ∀ t : Fin grid0.N, _)

/-- The row of the array that row `r` of point `t`'s block is. -/
def place (t : Fin cfg0.N) (r : Fin 256) : Fin 16384 := ⟨t.val * 256 + r.val, by have : t.val < 64 := t.isLt; omega⟩

/-- The number of the word zero. -/
theorem sitofp_zero : FloatOps.sitofp (F := Ideal) .f32 0#32 = (0 : EReal) := by
  change ((((0#32 : BitVec 32).toInt : ℝ)) : EReal) = 0
  simp

/-- The norm of the row, as the region finds it. -/
theorem entry_norm (c : Dev nD) (e : Fin 2048) : V m c main_v41 (ix2 0 e) = m ((c.tc : Thread nD τ).loc main_arg1) (ix2 0 e) := by
  unfold V
  after_reads_at

/-- The columns of queries, keys and values. -/
theorem entry_weight (c : Dev nD) (e : Fin 2048) (k : Fin 1536) : V m c main_v43 (ix2 e k)
    = m ((c.tc : Thread nD τ).loc main_arg2) (ix3 0 e ⟨4128 + k.val, by omega⟩) := by
  unfold V
  after_reads_at

/-- The norm of the query heads. -/
theorem entry_query_norm (c : Dev nD) (d : Fin 128) : V m c main_v46 (ix2 0 d) = m ((c.tc : Thread nD τ).loc main_arg3) (ix2 0 d) := by
  unfold V
  after_reads_at

/-- The norm of the key heads. -/
theorem entry_key_norm (c : Dev nD) (d : Fin 128) : V m c main_v48 (ix2 0 d) = m ((c.tc : Thread nD τ).loc main_arg4) (ix2 0 d) := by
  unfold V
  after_reads_at

/-- The columns of the gates, filled up with zeros. -/
theorem entry_gate_weight (c : Dev nD) (e : Fin 2048) (d : Fin 128) : V m c main_v44 (ix2 e d)
    = if h : d.val < 32 then m ((c.tc : Thread nD τ).loc main_arg2) (ix3 0 e ⟨4096 + d.val, by omega⟩) else (0 : EReal) := by
  unfold V
  after_reads_at
  rw [sitofp_zero]

/-- The decay rates of the two directions, one after the other. -/
theorem entry_alog (c : Dev nD) (d : Fin 128) : V m c main_v53 (ix2 0 d)
    = if h : d.val < 8 then m ((c.tc : Thread nD τ).loc main_arg5) (ix2 0 ⟨d.val, h⟩)
      else if h : d.val < 16 then m ((c.tc : Thread nD τ).loc main_arg6) (ix2 0 ⟨d.val - 8, by omega⟩) else (0 : EReal) := by
  unfold V
  after_reads_at
  after_reads_at
  rw [sitofp_zero]
  split_ifs <;> first | rfl | (exfalso; omega)

/-- The biases of the two directions, one after the other. -/
theorem entry_bias (c : Dev nD) (d : Fin 128) : V m c main_v58 (ix2 0 d)
    = if h : d.val < 8 then m ((c.tc : Thread nD τ).loc main_arg7) (ix2 0 ⟨d.val, h⟩)
      else if h : d.val < 16 then m ((c.tc : Thread nD τ).loc main_arg8) (ix2 0 ⟨d.val - 8, by omega⟩) else (0 : EReal) := by
  unfold V
  after_reads_at
  after_reads_at
  rw [sitofp_zero]
  split_ifs <;> first | rfl | (exfalso; omega)

set_option maxHeartbeats 1600000 in
/-- The table of cosines. -/
theorem entry_cos (c : Dev nD) (R : Fin 16384) (d : Fin 128) : V m c main_v31 (ix2 R d) = Ideal.cos (turn R.val d.val) := by
  unfold V
  after_reads_at
  split_ifs
  all_goals after_reads_at
  all_goals first
    | exact congrArg Ideal.cos (turn_row R d.val _ (by omega) (by omega))
    | exact congrArg Ideal.cos (turn_col R d.val _ (by omega) (by omega))

set_option maxHeartbeats 1600000 in
/-- The table of the sines that the lane 32 further on is multiplied with. -/
theorem entry_lo (c : Dev nD) (R : Fin 16384) (d : Fin 128) : V m c main_v36 (ix2 R d) = sinLo R.val d.val := by
  unfold V
  after_reads_at
  split_ifs
  all_goals try after_reads_at
  all_goals first
    | exact sinLo_zero R.val d.val (by omega)
    | exact sinLo_row R d.val _ (by omega) (by omega) (by omega)
    | exact sinLo_col R d.val _ (by omega) (by omega) (by omega)

set_option maxHeartbeats 1600000 in
/-- The table of the sines that the lane 32 further back is multiplied with. -/
theorem entry_hi (c : Dev nD) (R : Fin 16384) (d : Fin 128) : V m c main_v39 (ix2 R d) = sinHi R.val d.val := by
  unfold V
  after_reads_at
  split_ifs
  all_goals try after_reads_at
  all_goals first
    | exact sinHi_zero R.val d.val (by omega)
    | exact sinHi_row R d.val _ (by omega) (by omega) (by omega)
    | exact sinHi_col R d.val _ (by omega) (by omega) (by omega)

end Cert.AttnProjIdeal.Step

end
-- ==== Proof.AttnProjRead.lean ====
/- The attention layer's projections: what the reference computes. -/
module

public import proofs.«01_k».proof.Proof.AttnProjSpec
public import proofs.«01_k».proof.Proof.Gen.AttnProjRefIdeal.Read
public import Idealize.ShloMosaic.Lib.Pointwise

@[expose] public section

set_option maxRecDepth 16384

noncomputable section

open Idealize.ShloMosaic Idealize.ShloMosaic.TcCoe Idealize.SL.Sem

namespace Cert.AttnProjRefIdeal.Read

open Cert.AttnProjRefIdeal Cert.AttnProjSpec

variable (x0 : (⟨S16384x2048, .f32⟩ : BufTy).Contents (Elt Ideal)) (x1 : (⟨S1x2048, .f32⟩ : BufTy).Contents (Elt Ideal))
  (x2 : (⟨S1x2048x5664, .f32⟩ : BufTy).Contents (Elt Ideal)) (x3 x4 : (⟨S1x128, .f32⟩ : BufTy).Contents (Elt Ideal))
  (x5 x6 x7 x8 : (⟨S1x8, .f32⟩ : BufTy).Contents (Elt Ideal))

/-- The angles of the queries. -/
theorem query_row_angle (R : Fin 16384) (k : Fin 32) : val_main_v66 (F := Ideal) (ix2 R k) = angle (R.val / 64) k.val := by
  pointwise [val_main_v66, val_main_v64, val_main_v62, val_main_v47, val_main_v46, val_main_v45, val_main_v65, val_main_v63, val_main_v61,
    val_main_v60, val_main_v59, val_main_v58, val_main_v57, val_main_v56, val_main_v55, val_main_v54, val_main_v53, val_main_v52,
    val_main_cst_5, val_main_cst_6, val_main_cst_7, val_main_cst_8]
  rfl

theorem query_col_angle (R : Fin 16384) (k : Fin 32) : val_main_v71 (F := Ideal) (ix2 R k) = angle (R.val % 64) k.val := by
  pointwise [val_main_v71, val_main_v69, val_main_v67, val_main_v51, val_main_v50, val_main_v49, val_main_v48, val_main_v70, val_main_v68, val_main_v61,
    val_main_v60, val_main_v59, val_main_v58, val_main_v57, val_main_v56, val_main_v55, val_main_v54, val_main_v53, val_main_v52,
    val_main_cst_5, val_main_cst_6, val_main_cst_7, val_main_cst_8]
  rfl

/-- The keys are turned by the same angles. -/
theorem key_row_angle (R : Fin 16384) (k : Fin 32) : val_main_v145 (F := Ideal) (ix2 R k) = angle (R.val / 64) k.val :=
  query_row_angle R k

theorem key_col_angle (R : Fin 16384) (k : Fin 32) : val_main_v150 (F := Ideal) (ix2 R k) = angle (R.val % 64) k.val :=
  query_col_angle R k

/-- The normalised row. -/
theorem row (R : Fin 16384) (e : Fin 2048) : val_main_v13 (F := Ideal) x0 x1 (ix2 R e) = Cert.FfnSpec.rowOf x0 x1 R e := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, Cert.FfnSpec.rowOf, Cert.FfnSpec.normed]

/-- A query head before it is turned. -/
theorem query_head (R : Fin 16384) (h : Fin 8) (d : Fin 128) : val_main_v44 (F := Ideal) x0 x1 x2 x3 (ix3 R h d)
    = headRow (Cert.FfnSpec.rowOf x0 x1 R) (fun d e => x2 (ix3 0 e ⟨4128 + (h.val * 128 + d.val), by omega⟩)) (fun d => x3 (ix2 0 d)) d := by
  rw [show Cert.FfnSpec.rowOf x0 x1 R = fun e => val_main_v13 (F := Ideal) x0 x1 (ix2 R e) from funext fun e => (row x0 x1 R e).symm]
  pointwise [val_main_v44, val_main_v43, val_main_v42, val_main_v41, val_main_v40, val_main_v39, val_main_v38, val_main_v37, val_main_v36, val_main_v35,
    val_main_v34, val_main_v33, val_main_v32, val_main_v31, val_main_v23, val_main_v22, val_main_v21, val_main_v20, val_main_cst_2,
    val_main_cst_3, val_main_cst_4, headRow, product, Cert.AttnSpec.normed]

/-- A key head before it is turned. -/
theorem key_head (R : Fin 16384) (h : Fin 2) (d : Fin 128) : val_main_v123 (F := Ideal) x0 x1 x2 x4 (ix3 R h d)
    = headRow (Cert.FfnSpec.rowOf x0 x1 R) (fun d e => x2 (ix3 0 e ⟨5152 + (h.val * 128 + d.val), by omega⟩)) (fun d => x4 (ix2 0 d)) d := by
  rw [show Cert.FfnSpec.rowOf x0 x1 R = fun e => val_main_v13 (F := Ideal) x0 x1 (ix2 R e) from funext fun e => (row x0 x1 R e).symm]
  pointwise [val_main_v123, val_main_v122, val_main_v121, val_main_v120, val_main_v119, val_main_v118, val_main_v117, val_main_v116, val_main_v115,
    val_main_v114, val_main_v113, val_main_v112, val_main_v111, val_main_v110, val_main_v27, val_main_v26, val_main_v25, val_main_v24,
    val_main_cst_9, val_main_cst_10, val_main_cst_11, headRow, product, Cert.AttnSpec.normed]

/-- The query heads, turned. -/
theorem query_turned (R : Fin 16384) (h : Fin 8) (d : Fin 128) : val_main_v108 (F := Ideal) x0 x1 x2 x3 (ix3 R h d)
    = roped (fun d => val_main_v44 (F := Ideal) x0 x1 x2 x3 (ix3 R h d)) R.val d := by
  rw [← roped_parts]
  pointwise [val_main_v108, val_main_v107, val_main_v106, val_main_v105, val_main_v104, val_main_v103, val_main_v102, val_main_v101, val_main_v100,
    val_main_v99, val_main_v98, val_main_v97, val_main_v96, val_main_v95, val_main_v94, val_main_v93, val_main_v92, val_main_v91, val_main_v90,
    val_main_v89, val_main_v88, val_main_v87, val_main_v86, val_main_v85, val_main_v84, val_main_v83, val_main_v82, val_main_v81, val_main_v80,
    val_main_v79, val_main_v78, val_main_v77, val_main_v76, val_main_v75, val_main_v74, val_main_v73, val_main_v72]
  simp only [query_row_angle, query_col_angle]

/-- The key heads, turned. -/
theorem key_turned (R : Fin 16384) (h : Fin 2) (d : Fin 128) : val_main_v187 (F := Ideal) x0 x1 x2 x4 (ix3 R h d)
    = roped (fun d => val_main_v123 (F := Ideal) x0 x1 x2 x4 (ix3 R h d)) R.val d := by
  rw [← roped_parts]
  pointwise [val_main_v187, val_main_v186, val_main_v185, val_main_v184, val_main_v183, val_main_v182, val_main_v181, val_main_v180, val_main_v179,
    val_main_v178, val_main_v177, val_main_v176, val_main_v175, val_main_v174, val_main_v173, val_main_v172, val_main_v171, val_main_v170,
    val_main_v169, val_main_v168, val_main_v167, val_main_v166, val_main_v165, val_main_v164, val_main_v163, val_main_v162, val_main_v161,
    val_main_v160, val_main_v159, val_main_v158, val_main_v157, val_main_v156, val_main_v155, val_main_v154, val_main_v153, val_main_v152,
    val_main_v151]
  simp only [key_row_angle, key_col_angle]

/-- The reference's queries. -/
theorem queries (R : Fin 16384) (k : Fin 1024) : val_main_v221 (F := Ideal) x0 x1 x2 x3 (ix2 R k)
    = roped (headRow (Cert.FfnSpec.rowOf x0 x1 R) (fun d e => x2 (ix3 0 e ⟨4128 + (k.val / 128 * 128 + d.val), by omega⟩)) (fun d => x3 (ix2 0 d)))
        R.val ⟨k.val % 128, by omega⟩ := by
  rw [val_main_v221_apply, val_main_v109_apply]
  refine (congrArg (val_main_v108 (F := Ideal) x0 x1 x2 x3) (by idx_ext :
    _ = ix3 R (⟨k.val / 128, by omega⟩ : Fin 8) (⟨k.val % 128, by omega⟩ : Fin 128))).trans ?_
  rw [query_turned]
  exact congrArg (fun y => roped y R.val _) (funext fun d => query_head x0 x1 x2 x3 R _ d)

/-- The reference's keys. -/
theorem keys (R : Fin 16384) (k : Fin 256) : val_main_v222 (F := Ideal) x0 x1 x2 x4 (ix2 R k)
    = roped (headRow (Cert.FfnSpec.rowOf x0 x1 R) (fun d e => x2 (ix3 0 e ⟨5152 + (k.val / 128 * 128 + d.val), by omega⟩)) (fun d => x4 (ix2 0 d)))
        R.val ⟨k.val % 128, by omega⟩ := by
  rw [val_main_v222_apply, val_main_v188_apply]
  refine (congrArg (val_main_v187 (F := Ideal) x0 x1 x2 x4) (by idx_ext :
    _ = ix3 R (⟨k.val / 128, by omega⟩ : Fin 2) (⟨k.val % 128, by omega⟩ : Fin 128))).trans ?_
  rw [key_turned]
  exact congrArg (fun y => roped y R.val _) (funext fun d => key_head x0 x1 x2 x4 R _ d)

/-- The reference's values. -/
theorem values (R : Fin 16384) (d : Fin 256) : val_main_v223 (F := Ideal) x0 x1 x2 (ix2 R d)
    = product (Cert.FfnSpec.rowOf x0 x1 R) (fun e => x2 (ix3 0 e ⟨5408 + d.val, by omega⟩)) := by
  rw [show Cert.FfnSpec.rowOf x0 x1 R = fun e => val_main_v13 (F := Ideal) x0 x1 (ix2 R e) from funext fun e => (row x0 x1 R e).symm]
  pointwise [val_main_v223, val_main_v30, val_main_v29, val_main_v28, product]

/-- The softplus of the first direction's time step. -/
theorem soft_first (R : Fin 16384) (d : Fin 8) : val_main_v197 (F := Ideal) x0 x1 x2 x7 (ix2 R d)
    = softplus (product (Cert.FfnSpec.rowOf x0 x1 R) (fun e => x2 (ix3 0 e ⟨4096 + d.val, by omega⟩)) + x7 (ix2 0 d)) := by
  have e : val_main_v196 (F := Ideal) x0 x1 x2 x7 (ix2 R d)
      = product (Cert.FfnSpec.rowOf x0 x1 R) (fun e => x2 (ix3 0 e ⟨4096 + d.val, by omega⟩)) + x7 (ix2 0 d) := by
    rw [show Cert.FfnSpec.rowOf x0 x1 R = fun e => val_main_v13 (F := Ideal) x0 x1 (ix2 R e) from funext fun e => (row x0 x1 R e).symm]
    pointwise [val_main_v196, val_main_v195, val_main_v194, val_main_v193, val_main_v192, val_main_v16, val_main_v15, val_main_v14, product]
  rw [← e]
  generalize hT : val_main_v196 (F := Ideal) x0 x1 x2 x7 = T
  pointwise [val_main_v197, val_main_call0_v4, val_main_call0_v6, val_main_call0_v11, val_main_call0_v10, val_main_call0_v9, val_main_call0_v8, val_main_call0_v7,
    val_main_call0_v5, val_main_call0_v3, val_main_call0_v2, val_main_call0_v1, val_main_call0_v0, val_main_call0_cst, hT]
  exact if_neg (not_not.mpr rfl)

/-- The softplus of the second direction's. -/
theorem soft_second (R : Fin 16384) (d : Fin 8) : val_main_v209 (F := Ideal) x0 x1 x2 x8 (ix2 R d)
    = softplus (product (Cert.FfnSpec.rowOf x0 x1 R) (fun e => x2 (ix3 0 e ⟨4096 + (8 + d.val), by omega⟩)) + x8 (ix2 0 d)) := by
  have e : val_main_v208 (F := Ideal) x0 x1 x2 x8 (ix2 R d)
      = product (Cert.FfnSpec.rowOf x0 x1 R) (fun e => x2 (ix3 0 e ⟨4096 + (8 + d.val), by omega⟩)) + x8 (ix2 0 d) := by
    rw [show Cert.FfnSpec.rowOf x0 x1 R = fun e => val_main_v13 (F := Ideal) x0 x1 (ix2 R e) from funext fun e => (row x0 x1 R e).symm]
    pointwise [val_main_v208, val_main_v207, val_main_v206, val_main_v205, val_main_v204, val_main_v16, val_main_v15, val_main_v14, product]
  rw [← e]
  generalize hT : val_main_v208 (F := Ideal) x0 x1 x2 x8 = T
  pointwise [val_main_v209, val_main_call1_v4, val_main_call1_v6, val_main_call1_v11, val_main_call1_v10, val_main_call1_v9, val_main_call1_v8, val_main_call1_v7,
    val_main_call1_v5, val_main_call1_v3, val_main_call1_v2, val_main_call1_v1, val_main_call1_v0, val_main_call1_cst, hT]
  exact if_neg (not_not.mpr rfl)

/-- The reference's gates. -/
theorem gate (R : Fin 16384) (d : Fin 128) : val_main_v220 (F := Ideal) x0 x1 x2 x5 x6 x7 x8 (ix2 R d)
    = gates (Cert.FfnSpec.rowOf x0 x1 R) (fun e k => x2 (ix3 0 e k)) (fun k => x5 (ix2 0 k)) (fun k => x6 (ix2 0 k)) (fun k => x7 (ix2 0 k))
        (fun k => x8 (ix2 0 k)) d := by
  unfold val_main_v220 gates
  generalize hS : val_main_v197 (F := Ideal) x0 x1 x2 x7 = S
  generalize hS' : val_main_v209 (F := Ideal) x0 x1 x2 x8 = S'
  pointwise [val_main_v200, val_main_v199, val_main_v198, val_main_v191, val_main_v190, val_main_v189, val_main_v212, val_main_v211, val_main_v210,
    val_main_v203, val_main_v202, val_main_v201, val_main_v219, val_main_v218, val_main_v217, val_main_v216, val_main_v215, val_main_v214,
    val_main_v213, val_main_v19, val_main_v18, val_main_v17, val_main_cst_16, val_main_cst_17, val_main_cst_18]
  subst hS hS'
  simp only [soft_first, soft_second, row]
  by_cases h8 : d.val < 8
  · simp only [dif_pos h8]
  by_cases h16 : d.val < 16
  · simp only [dif_neg h8, dif_pos h16, dif_pos (show d.val - 8 < 8 by omega), show 8 + (d.val - 8) = d.val by omega]
  by_cases h32 : d.val < 32
  · simp only [dif_neg h8, dif_neg h16, dif_pos h32, dif_neg (show ¬d.val - 8 < 8 by omega), dif_pos (show d.val - 8 - 8 < 16 by omega),
      show 4112 + (d.val - 8 - 8) = 4096 + d.val by omega]
    rfl
  · simp only [dif_neg h8, dif_neg h16, dif_neg h32, dif_neg (show ¬d.val - 8 < 8 by omega), dif_neg (show ¬d.val - 8 - 8 < 16 by omega)]

end Cert.AttnProjRefIdeal.Read

end
-- ==== Proof.AttnProjEquation.lean ====
/- The attention layer's projections: their output arrays, and the reference's results. -/
module

public import proofs.«01_k».proof.Proof.AttnProjBlock
public import proofs.«01_k».proof.Proof.AttnProjTables
public import proofs.«01_k».proof.Proof.AttnProjRead

@[expose] public section

set_option maxRecDepth 16384

noncomputable section

open Idealize.ShloMosaic Idealize.ShloMosaic.TcCoe Idealize.SL.Sem

namespace Cert.AttnProjIdeal.Step

open Cert.AttnProjIdeal Cert.AttnProjIdeal.Gen Cert.AttnProjIdeal.Value Cert.AttnProjSpec

variable (m : (ℓ : Loc nD τ sig) → Buf (Elt Ideal) ℓ)

/-- A row of the input's block. -/
theorem input_block (c : Dev nD) (t : Fin cfg0.N) (r : Fin 256) (e : Fin 2048) : (show FVec Ideal S256x2048 .f32 from iblk m c 0 t) (ix2 r e)
    = m ((c.tc : Thread nD τ).loc main_arg0) (ix2 (place t r) e) := by
  refine Eq.trans ?_ (congrFun (V_main_arg0 m c) _)
  blk_point [iblk, idx t, place]

/-- The norm of the row. -/
theorem norm_block (c : Dev nD) (t : Fin cfg0.N) (e : Fin 2048) : (show FVec Ideal S1x2048 .f32 from iblk m c 1 t) (ix2 0 e)
    = m ((c.tc : Thread nD τ).loc main_arg1) (ix2 0 e) := by
  refine Eq.trans ?_ (entry_norm m c e)
  blk_point [iblk, idx t, place]

/-- The columns of queries, keys and values. -/
theorem weight_block (c : Dev nD) (t : Fin cfg0.N) (e : Fin 2048) (k : Fin 1536) : (show FVec Ideal S2048x1536 .bf16 from iblk m c 2 t) (ix2 e k)
    = m ((c.tc : Thread nD τ).loc main_arg2) (ix3 0 e ⟨4128 + k.val, by omega⟩) := by
  refine Eq.trans ?_ (entry_weight m c e k)
  blk_point [iblk, idx t, place]

/-- The columns of the gates. -/
theorem gate_weight_block (c : Dev nD) (t : Fin cfg0.N) (e : Fin 2048) (d : Fin 128) : (show FVec Ideal S2048x128 .bf16 from iblk m c 3 t) (ix2 e d)
    = if h : d.val < 32 then m ((c.tc : Thread nD τ).loc main_arg2) (ix3 0 e ⟨4096 + d.val, by omega⟩) else (0 : EReal) := by
  refine Eq.trans ?_ (entry_gate_weight m c e d)
  blk_point [iblk, idx t, place]

/-- The norm of the query heads. -/
theorem query_norm_block (c : Dev nD) (t : Fin cfg0.N) (d : Fin 128) : (show FVec Ideal S1x128 .f32 from iblk m c 4 t) (ix2 0 d)
    = m ((c.tc : Thread nD τ).loc main_arg3) (ix2 0 d) := by
  refine Eq.trans ?_ (entry_query_norm m c d)
  blk_point [iblk, idx t, place]

/-- The norm of the key heads. -/
theorem key_norm_block (c : Dev nD) (t : Fin cfg0.N) (d : Fin 128) : (show FVec Ideal S1x128 .f32 from iblk m c 5 t) (ix2 0 d)
    = m ((c.tc : Thread nD τ).loc main_arg4) (ix2 0 d) := by
  refine Eq.trans ?_ (entry_key_norm m c d)
  blk_point [iblk, idx t, place]

/-- The cosines at a row. -/
theorem cos_block (c : Dev nD) (t : Fin cfg0.N) (r : Fin 256) (d : Fin 128) : (show FVec Ideal S256x128 .f32 from iblk m c 6 t) (ix2 r d)
    = Ideal.cos (turn (place t r).val d.val) := by
  refine Eq.trans ?_ (entry_cos m c (place t r) d)
  blk_point [iblk, idx t, place]

/-- The sines for the lane further on. -/
theorem lo_block (c : Dev nD) (t : Fin cfg0.N) (r : Fin 256) (d : Fin 128) : (show FVec Ideal S256x128 .f32 from iblk m c 7 t) (ix2 r d)
    = sinLo (place t r).val d.val := by
  refine Eq.trans ?_ (entry_lo m c (place t r) d)
  blk_point [iblk, idx t, place]

/-- The sines for the lane further back. -/
theorem hi_block (c : Dev nD) (t : Fin cfg0.N) (r : Fin 256) (d : Fin 128) : (show FVec Ideal S256x128 .f32 from iblk m c 8 t) (ix2 r d)
    = sinHi (place t r).val d.val := by
  refine Eq.trans ?_ (entry_hi m c (place t r) d)
  blk_point [iblk, idx t, place]

/-- The decay rates of both directions. -/
theorem decay_block (c : Dev nD) (t : Fin cfg0.N) (d : Fin 128) : (show FVec Ideal S1x128 .f32 from iblk m c 9 t) (ix2 0 d)
    = if h : d.val < 8 then m ((c.tc : Thread nD τ).loc main_arg5) (ix2 0 ⟨d.val, h⟩)
      else if h : d.val < 16 then m ((c.tc : Thread nD τ).loc main_arg6) (ix2 0 ⟨d.val - 8, by omega⟩) else (0 : EReal) := by
  refine Eq.trans ?_ (entry_alog m c d)
  blk_point [iblk, idx t, place]

/-- The biases of both directions. -/
theorem bias_block (c : Dev nD) (t : Fin cfg0.N) (d : Fin 128) : (show FVec Ideal S1x128 .f32 from iblk m c 10 t) (ix2 0 d)
    = if h : d.val < 8 then m ((c.tc : Thread nD τ).loc main_arg7) (ix2 0 ⟨d.val, h⟩)
      else if h : d.val < 16 then m ((c.tc : Thread nD τ).loc main_arg8) (ix2 0 ⟨d.val - 8, by omega⟩) else (0 : EReal) := by
  refine Eq.trans ?_ (entry_bias m c d)
  blk_point [iblk, idx t, place]

/-- The normalised row of a block is the array's. -/
theorem row_block (c : Dev nD) (t : Fin cfg0.N) (r : Fin 256) : Cert.FfnSpec.rowOf (iblk m c 0 t) (iblk m c 1 t) r
    = Cert.FfnSpec.rowOf (m ((c.tc : Thread nD τ).loc main_arg0)) (m ((c.tc : Thread nD τ).loc main_arg1)) (place t r) := by
  unfold Cert.FfnSpec.rowOf
  rw [← funext (input_block m c t r), ← funext (norm_block m c t)]

/-- The queries of a block. -/
theorem query_block (c : Dev nD) (t : Fin cfg0.N) (r : Fin 256) (k : Fin 1024) :
    out0_11 (F := Ideal) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (ix2 r k)
      = Cert.AttnProjRefIdeal.Read.val_main_v221 (F := Ideal) (m ((c.tc : Thread nD τ).loc main_arg0)) (m ((c.tc : Thread nD τ).loc main_arg1))
        (m ((c.tc : Thread nD τ).loc main_arg2)) (m ((c.tc : Thread nD τ).loc main_arg3)) (ix2 (place t r) k) := by
  rw [query_at, Cert.AttnProjRefIdeal.Read.queries, row_block, ← turned_tables, ← funext (query_norm_block m c t), ← funext (cos_block m c t r),
    ← funext (lo_block m c t r), ← funext (hi_block m c t r)]
  refine congrArg (fun w => turned (headRow _ w _) _ _ _ _) (funext₂ fun d e => (weight_block m c t e _).trans ?_)
  rfl

/-- The keys of a block. -/
theorem key_block (c : Dev nD) (t : Fin cfg0.N) (r : Fin 256) (k : Fin 256) :
    out0_12 (F := Ideal) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (ix2 r k)
      = Cert.AttnProjRefIdeal.Read.val_main_v222 (F := Ideal) (m ((c.tc : Thread nD τ).loc main_arg0)) (m ((c.tc : Thread nD τ).loc main_arg1))
        (m ((c.tc : Thread nD τ).loc main_arg2)) (m ((c.tc : Thread nD τ).loc main_arg4)) (ix2 (place t r) k) := by
  rw [key_at, Cert.AttnProjRefIdeal.Read.keys, row_block, ← turned_tables, ← funext (key_norm_block m c t), ← funext (cos_block m c t r),
    ← funext (lo_block m c t r), ← funext (hi_block m c t r)]
  refine congrArg (fun w => turned (headRow _ w _) _ _ _ _) (funext₂ fun d e => (weight_block m c t e _).trans ?_)
  exact congrArg (fun k => m ((c.tc : Thread nD τ).loc main_arg2) (ix3 0 e k)) (Fin.ext (by dsimp only; omega))

/-- The values of a block. -/
theorem value_block (c : Dev nD) (t : Fin cfg0.N) (r : Fin 256) (d : Fin 256) :
    out0_13 (F := Ideal) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (ix2 r d)
      = Cert.AttnProjRefIdeal.Read.val_main_v223 (F := Ideal) (m ((c.tc : Thread nD τ).loc main_arg0)) (m ((c.tc : Thread nD τ).loc main_arg1))
        (m ((c.tc : Thread nD τ).loc main_arg2)) (ix2 (place t r) d) := by
  rw [value_at, Cert.AttnProjRefIdeal.Read.values, row_block]
  refine congrArg (product _) (funext fun e => (weight_block m c t e _).trans ?_)
  exact congrArg (fun k => m ((c.tc : Thread nD τ).loc main_arg2) (ix3 0 e k)) (Fin.ext (by dsimp only; omega))

/-- The gates of a block. -/
theorem gate_block (c : Dev nD) (t : Fin cfg0.N) (r : Fin 256) (d : Fin 128) :
    out0_14 (F := Ideal) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (ix2 r d)
      = Cert.AttnProjRefIdeal.Read.val_main_v220 (F := Ideal) (m ((c.tc : Thread nD τ).loc main_arg0)) (m ((c.tc : Thread nD τ).loc main_arg1))
        (m ((c.tc : Thread nD τ).loc main_arg2)) (m ((c.tc : Thread nD τ).loc main_arg5)) (m ((c.tc : Thread nD τ).loc main_arg6))
        (m ((c.tc : Thread nD τ).loc main_arg7)) (m ((c.tc : Thread nD τ).loc main_arg8)) (ix2 (place t r) d) := by
  rw [gate_at, Cert.AttnProjRefIdeal.Read.gate, row_block]
  exact gates_padded _ _ _ _ _ _ d _ _ _ (fun e => gate_weight_block m c t e d) (decay_block m c t d) (bias_block m c t d)

/-- The array of queries is the reference's function of the arguments. -/
theorem equation_queries (c : Dev nD) : (dats m 0 c).arrAt 11 cfg0.N
    = Cert.AttnProjRefIdeal.Read.val_main_v221 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 11 _ (by decide +kernel) fun t _ y => ?_
  blk_simp
  rw [after0_11]
  idx_vars y
  refine (query_block m c t y0 y1).trans (congrArg _ ?_)
  blk_ext [idx t, place]

/-- The array of keys is the reference's function of the arguments. -/
theorem equation_keys (c : Dev nD) : (dats m 0 c).arrAt 12 cfg0.N
    = Cert.AttnProjRefIdeal.Read.val_main_v222 (F := Ideal) (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 12 _ (by decide +kernel) fun t _ y => ?_
  blk_simp
  rw [after0_12]
  idx_vars y
  refine (key_block m c t y0 y1).trans (congrArg _ ?_)
  blk_ext [idx t, place]

/-- The array of values is the reference's function of the arguments. -/
theorem equation_values (c : Dev nD) : (dats m 0 c).arrAt 13 cfg0.N
    = Cert.AttnProjRefIdeal.Read.val_main_v223 (F := Ideal) (m ((c.tc : Thread nD τ).loc main_arg0)) (m ((c.tc : Thread nD τ).loc main_arg1)) (m ((c.tc : Thread nD τ).loc main_arg2)) := by
  refine (dats m 0 c).arrAt_eq_of_covers 13 _ (by decide +kernel) fun t _ y => ?_
  blk_simp
  rw [after0_13]
  idx_vars y
  refine (value_block m c t y0 y1).trans (congrArg _ ?_)
  blk_ext [idx t, place]

/-- The array of gates is the reference's function of the arguments. -/
theorem equation_gates (c : Dev nD) : (dats m 0 c).arrAt 14 cfg0.N
    = Cert.AttnProjRefIdeal.Read.val_main_v220 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 14 _ (by decide +kernel) fun t _ y => ?_
  blk_simp
  rw [after0_14]
  idx_vars y
  refine (gate_block m c t y0 y1).trans (congrArg _ ?_)
  blk_ext [idx t, place]

end Cert.AttnProjIdeal.Step

end
-- ==== Proof.AttnProjClaim.lean ====
/- The claims about the input projections of the attention layer. -/
module

public import proofs.«01_k».proof.Defs
public import proofs.«01_k».proof.Proof.Gen.AttnProj.Frame
public import proofs.«01_k».proof.Proof.Gen.AttnProjIdeal.Value
public import proofs.«01_k».proof.Proof.Gen.AttnProjRefIdeal.Run
public import proofs.«01_k».proof.Proof.Gen.AttnProjRefIdeal.Read
public import proofs.«01_k».proof.Proof.AttnProjEquation
public import Idealize.ShloMosaic.Adequacy
public import Idealize.ShloMosaic.Init
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem

namespace Cert.Proof.AttnProj

/-- The kernel of the input projections of the attention layer runs, leaves its arguments unchanged and every semaphore at zero. -/
theorem kernel : quiescent_AttnProj (hAttnProj := Cert.AttnProj.Gen.facts) := fun m ρ _ => Cert.AttnProj.Gen.frame m ρ

/-- The same of its ideal form. -/
theorem ideal : quiescent_AttnProjIdeal (hAttnProjIdeal := Cert.AttnProjIdeal.Gen.facts) := fun m ρ _ => Cert.AttnProjIdeal.Gen.frame m ρ

/-- The reference runs, leaves its arguments unchanged and every semaphore at zero. -/
theorem reference : quiescent_AttnProjRefIdeal (hAttnProjRefIdeal := Cert.AttnProjRefIdeal.Gen.facts) := fun m ρ _ =>
  (θ_run Cert.AttnProjRefIdeal.defs _ _).mono (fun r h => ⟨fun c => (h c).2.2.2.2, sem_eq_zero_of_no_sems (by decide) r.2⟩)
    (Cert.AttnProjRefIdeal.Value.run (F := Ideal) m ρ)

/-- The ideal form is the kernel's own. -/
theorem preserves : preserves_AttnProj_AttnProjIdeal := trivial
/-- The four results are the reference's, for every input. -/
theorem algebraic : algebraic_AttnProjIdeal_AttnProjRefIdeal (hAttnProjIdeal := Cert.AttnProjIdeal.Gen.facts) (hAttnProjRefIdeal := Cert.AttnProjRefIdeal.Gen.facts) := by
  intro m ρ m' ρ' _ hagree
  refine ⟨_, _, _, _, Cert.AttnProjIdeal.Value.run_blocks (F := Ideal) m ρ, ?_⟩
  refine (θ_run Cert.AttnProjRefIdeal.defs _ _).mono (fun _ h c => ?_) (Cert.AttnProjRefIdeal.Value.run (F := Ideal) m' ρ')
  obtain ⟨a0, a1, a2, a3, a4, a5, a6, a7, a8⟩ := hagree c
  refine ⟨(h c).1.trans ?_, (h c).2.1.trans ?_, (h c).2.2.1.trans ?_, (h c).2.2.2.1.trans ?_, (h c).2.2.2.2⟩
  · refine (Cert.AttnProjRefIdeal.Read.val_main_v221_eq _).trans (Eq.trans ?_ (Cert.AttnProjIdeal.Step.equation_queries m c).symm)
    exact congr (congr (congr (congrArg _ a0) a1) a2) a3
  · refine (Cert.AttnProjRefIdeal.Read.val_main_v222_eq _).trans (Eq.trans ?_ (Cert.AttnProjIdeal.Step.equation_keys m c).symm)
    exact congr (congr (congr (congrArg _ a0) a1) a2) a4
  · refine (Cert.AttnProjRefIdeal.Read.val_main_v223_eq _).trans (Eq.trans ?_ (Cert.AttnProjIdeal.Step.equation_values m c).symm)
    exact congr (congr (congrArg _ a0) a1) a2
  · refine (Cert.AttnProjRefIdeal.Read.val_main_v220_eq _).trans (Eq.trans ?_ (Cert.AttnProjIdeal.Step.equation_gates m c).symm)
    exact congr (congr (congr (congr (congr (congr (congrArg _ a0) a1) a2) a5) a6) a7) a8

end Cert.Proof.AttnProj

end
-- ==== Proof.ConvSpec.lean ====
/- The short convolution before the scan, as plain formulas over the extended reals. -/
module

public import proofs.«01_k».proof.Proof.OutProjSpec

@[expose] public section

noncomputable section

namespace Cert.ConvSpec

open Idealize.ShloMosaic Cert.OutProjSpec

/-- Five entries `e`, weighted by `w` and summed, times the logistic of the sum. -/
def mixed (e w : Fin 5 → EReal) : EReal := silu (e 0 * w 0 + e 1 * w 1 + e 2 * w 2 + e 3 * w 3 + e 4 * w 4)

/-- A head's entries over the root of the sum of their squares. -/
def unit (y : Fin 128 → EReal) (d : Fin 128) : EReal :=
  y d * Ideal.rsqrt (∑ e : Fin 128, y e * y e + Ideal.ofBits .f32 0x358637BD#32)

/-- Row `j` of an array of rows that two rows of zeros precede and follow. -/
def padded (P : Fin 16384 → Fin 4096 → EReal) (j : ℕ) (k : Fin 3072) : EReal :=
  if h : 2 ≤ j ∧ j < 16386 then P ⟨j - 2, by omega⟩ ⟨k.val, by omega⟩ else 0

/-- The convolution of the padded rows at row `n` and column `k`. -/
def conv (P : Fin 16384 → Fin 4096 → EReal) (W : Fin 5 → Fin 3072 → EReal) (n : ℕ) (k : Fin 3072) : EReal :=
  mixed (fun s => padded P (n + s.val) k) (fun s => W s k)

/-- The queries' scale. -/
def scale : EReal := Ideal.ofBits .f32 0x3DB504F3#32

end Cert.ConvSpec

end
-- ==== Proof.ConvBlock.lean ====
/- The convolution before the scan: what the body leaves in its output blocks at a grid point. -/
module

public import proofs.«01_k».proof.Proof.ConvSpec
public import proofs.«01_k».proof.Proof.Gen.ConvIdeal.Value
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvIdeal.Step

open Cert.ConvIdeal Cert.ConvIdeal.Gen Cert.ConvIdeal.Value Cert.ConvSpec

variable (m : (ℓ : Loc nD τ sig) → Buf (Elt Ideal) ℓ)

/-- The buffer of the block's rows and the eight rows before and after it. -/
def ext (c : Dev nD) (t : Fin cfg0.N) : FVec Ideal S272x3072 .f32 :=
  View.canon (Val := Elt Ideal) (s := S272x3072) (e := .f32) [⟨Rect.unit (s := S272x3072) ![264, 0] S8x3072.size inb_S272x3072_S8x3072_264_0, k0_pay6 (F := Ideal) (grid0.coords t) (X0_2 m c t)⟩,
    ⟨Rect.unit (s := S272x3072) ![8, 0] S256x3072.size inb_S272x3072_S256x3072_8_0, k0_pay5 (F := Ideal) (X0_0 m c t)⟩,
    ⟨Rect.unit (s := S272x3072) ![0, 0] S8x3072.size inb_S272x3072_S8x3072_0_0, k0_pay4 (F := Ideal) (grid0.coords t) (X0_1 m c t)⟩]

/-- The convolution at a row and column of the block. -/
def conv (c : Dev nD) (t : Fin cfg0.N) (r : Fin 256) (k : Fin 3072) : EReal :=
  mixed (fun s => ext m c t (ix2 ⟨6 + s.val + r.val, by omega⟩ k)) (fun s => (show FVec Ideal S8x3072 .f32 from iblk m c 3 t) (ix2 ⟨s.val, by omega⟩ k))

set_option maxHeartbeats 1600000 in
/-- The queries. -/
theorem query_at (c : Dev nD) (t : Fin cfg0.N) (r : Fin 256) (d : Fin 1024) : (outsAt0 m c t).1 (ix2 r d)
    = unit (fun e => conv m c t r ⟨d.val / 128 * 128 + e.val, by omega⟩) ⟨d.val % 128, by omega⟩ * scale := by
  unfold outsAt0
  frame_out
  generalize hR : unit _ _ * scale = R
  canon_tiles x h
  all_goals
    change r.val = _ at h0
    change d.val = _ at h1
    subst hR
    unfold conv
    simp only [View.readCov_eq_canon']
    rw [show View.canon _ = ext m c t from rfl]
    generalize ext m c t = E
    open_payloads
    pointwise [unit, scale, mixed, Cert.OutProjSpec.silu]
    blk_point []

set_option maxHeartbeats 1600000 in
/-- The keys. -/
theorem key_at (c : Dev nD) (t : Fin cfg0.N) (r : Fin 256) (d : Fin 1024) : (outsAt0 m c t).2.1 (ix2 r d)
    = unit (fun e => conv m c t r ⟨1024 + (d.val / 128 * 128 + e.val), by omega⟩) ⟨d.val % 128, by omega⟩ := by
  unfold outsAt0
  frame_out
  generalize hR : unit _ _ = R
  canon_tiles x h
  all_goals
    change r.val = _ at h0
    change d.val = _ at h1
    subst hR
    unfold conv
    simp only [View.readCov_eq_canon']
    rw [show View.canon _ = ext m c t from rfl]
    generalize ext m c t = E
    open_payloads
    pointwise [unit, mixed, Cert.OutProjSpec.silu]
    blk_point []

set_option maxHeartbeats 1600000 in
/-- The values. -/
theorem value_at (c : Dev nD) (t : Fin cfg0.N) (r : Fin 256) (d : Fin 1024) : (outsAt0 m c t).2.2.1 (ix2 r d) = conv m c t r ⟨2048 + d.val, by omega⟩ := by
  unfold outsAt0
  frame_out
  generalize hR : conv m c t r _ = R
  canon_tiles x h
  all_goals
    change r.val = _ at h0
    change d.val = _ at h1
    subst hR
    unfold conv
    simp only [View.readCov_eq_canon']
    rw [show View.canon _ = ext m c t from rfl]
    generalize ext m c t = E
    open_payloads
    pointwise [mixed, Cert.OutProjSpec.silu]
    blk_point []

end Cert.ConvIdeal.Step

end
-- ==== Proof.ConvEquation.lean ====
/- The convolution before the scan: its output arrays, and the reference's results. -/
module

public import proofs.«01_k».proof.Proof.ConvBlock
public import proofs.«01_k».proof.Proof.FfnSpec
public import proofs.«01_k».proof.Proof.AttnProjTables
public import proofs.«01_k».proof.Proof.Gen.ConvRefIdeal.Read
public import Idealize.ShloMosaic.Lib.StableHlo.ReadAt

@[expose] public section

set_option maxRecDepth 16384

noncomputable section

open Idealize.ShloMosaic Idealize.ShloMosaic.TcCoe Idealize.SL.Sem

namespace Cert.ConvIdeal.Step

open Cert.ConvIdeal Cert.ConvIdeal.Gen Cert.ConvIdeal.Value Cert.ConvSpec

variable (m : (ℓ : Loc nD τ sig) → Buf (Elt Ideal) ℓ)

/-- The block each window stages at a grid point. -/
theorem idx : ∀ t : Fin cfg0.N, win0_0.index t = ![t.val, 0] ∧ win0_1.index t = ![32 * t.val - 1, 0] ∧ win0_2.index t = ![min (32 * (t.val + 1)) 2047, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the array that row `r` of point `t`'s block is. -/
def place (t : Fin cfg0.N) (r : Fin 256) : Fin 16384 := ⟨t.val * 256 + r.val, by have : t.val < 64 := t.isLt; omega⟩

/-- A row of the block. -/
theorem row_block (c : Dev nD) (t : Fin cfg0.N) (r : Fin 256) (k : Fin 3072) :
    X0_0 m c t (ix2 r k) = m ((c.tc : Thread nD τ).loc main_arg0) (ix2 (place t r) ⟨k.val, by omega⟩) := by
  refine Eq.trans ?_ (congrFun (V_main_arg0 m c) _)
  unfold X0_0 Pipeline.Window.fill
  rw [dif_pos (moved0_0 t _)]
  blk_point [iblk, idx t, place]

/-- A row of the eight before the block. -/
theorem before_block (c : Dev nD) (t : Fin cfg0.N) (r : Fin 8) (k : Fin 3072) :
    X0_1 m c t (ix2 r k) = m ((c.tc : Thread nD τ).loc main_arg0) (ix2 ⟨(32 * t.val - 1) * 8 + r.val, by have : t.val < 64 := t.isLt; omega⟩ ⟨k.val, by omega⟩) := by
  refine Eq.trans ?_ (congrFun (V_main_arg0 m c) _)
  unfold X0_1 Pipeline.Window.fill
  rw [dif_pos (moved0_1 t _)]
  blk_point [iblk, idx t, place]

/-- A row of the eight after the block. -/
theorem after_block (c : Dev nD) (t : Fin cfg0.N) (r : Fin 8) (k : Fin 3072) :
    X0_2 m c t (ix2 r k) = m ((c.tc : Thread nD τ).loc main_arg0) (ix2 ⟨min (32 * (t.val + 1)) 2047 * 8 + r.val, by have : t.val < 64 := t.isLt; omega⟩ ⟨k.val, by omega⟩) := by
  refine Eq.trans ?_ (congrFun (V_main_arg0 m c) _)
  unfold X0_2 Pipeline.Window.fill
  rw [dif_pos (moved0_2 t _)]
  blk_point [iblk, idx t, place]

/-- The convolution's weights, as the region finds them. -/
theorem entry_weight (c : Dev nD) (s : Fin 5) (k : Fin 3072) : V m c (Pipeline.arrRef spec0 3) (ix2 ⟨s.val, by omega⟩ k)
    = m ((c.tc : Thread nD τ).loc main_arg1) (ix3 0 s k) := by
  unfold V
  after_reads_at

/-- The convolution's weights. -/
theorem weight_block (c : Dev nD) (t : Fin cfg0.N) (s : Fin 5) (k : Fin 3072) : (show FVec Ideal S8x3072 .f32 from iblk m c 3 t) (ix2 ⟨s.val, by omega⟩ k)
    = m ((c.tc : Thread nD τ).loc main_arg1) (ix3 0 s k) := by
  refine Eq.trans ?_ (entry_weight m c s k)
  blk_point [iblk, idx t, place]

/-- The comparison of a point's number with another. -/
theorem point_eq (t : Fin cfg0.N) (n : ℕ) (h : n < 64) : Scalar.cmpi .eq (BitVec.ofNat 32 (grid0.coords t 0).val) (BitVec.ofNat 32 n) = if t.val = n then 1#1 else 0#1 :=
  (by decide +kernel : ∀ (n : Fin 64) (t : Fin grid0.N), Scalar.cmpi .eq (BitVec.ofNat 32 (grid0.coords t 0).val) (BitVec.ofNat 32 n.val) = if t.val = n.val then 1#1 else 0#1) ⟨n, h⟩ t

/-- The buffer holds the padded rows. -/
theorem ext_at (c : Dev nD) (t : Fin cfg0.N) (j : ℕ) (hj : j < 266) (k : Fin 3072) :
    ext m c t (ix2 ⟨6 + j, by omega⟩ k) = padded (fun n e => m ((c.tc : Thread nD τ).loc main_arg0) (ix2 n e)) (t.val * 256 + j) k := by
  have ht : t.val < 64 := t.isLt
  unfold ext padded
  by_cases h1 : 258 ≤ j
  · rw [show (ix2 ⟨6 + j, by omega⟩ k : S272x3072.Idx) = (Rect.unit (s := S272x3072) ![264, 0] S8x3072.size inb_S272x3072_S8x3072_264_0).emb (ix2 ⟨j - 258, by omega⟩ k)
      from by blk_ext, View.canon_cons_emb]
    unfold k0_pay6
    pointwise [after_block m c t]
    rw [point_eq t 63 (by omega)]
    by_cases h : t.val = 63
    · rw [if_pos h, dif_neg (by omega)]
      rfl
    · rw [if_neg h, dif_pos (by omega)]
      exact congrArg (fun n => m ((c.tc : Thread nD τ).loc main_arg0) (ix2 n ⟨k.val, by omega⟩)) (Fin.ext (by dsimp only; omega))
  · rw [View.canon_cons_of_not_mem _ _ (by rw [Rect.mem_set_unit]; intro h; have := (h 0).1; change 264 ≤ 6 + j at this; omega)]
    by_cases h2 : 2 ≤ j
    · rw [show (ix2 ⟨6 + j, by omega⟩ k : S272x3072.Idx) = (Rect.unit (s := S272x3072) ![8, 0] S256x3072.size inb_S272x3072_S256x3072_8_0).emb (ix2 ⟨j - 2, by omega⟩ k)
        from by blk_ext, View.canon_cons_emb]
      unfold k0_pay5
      pointwise [row_block m c t]
      rw [dif_pos (by omega)]
      exact congrArg (fun n => m ((c.tc : Thread nD τ).loc main_arg0) (ix2 n ⟨k.val, by omega⟩)) (Fin.ext (by unfold place; dsimp only; omega))
    · rw [View.canon_cons_of_not_mem _ _ (by rw [Rect.mem_set_unit]; intro h; have := (h 0).1; change 8 ≤ 6 + j at this; omega),
        show (ix2 ⟨6 + j, by omega⟩ k : S272x3072.Idx) = (Rect.unit (s := S272x3072) ![0, 0] S8x3072.size inb_S272x3072_S8x3072_0_0).emb (ix2 ⟨6 + j, by omega⟩ k)
        from by blk_ext, View.canon_cons_emb]
      unfold k0_pay4
      pointwise [before_block m c t]
      rw [point_eq t 0 (by omega)]
      by_cases h : t.val = 0
      · rw [if_pos h, dif_neg (by omega)]
        rfl
      · rw [if_neg h, dif_pos (by omega)]
        exact congrArg (fun n => m ((c.tc : Thread nD τ).loc main_arg0) (ix2 n ⟨k.val, by omega⟩)) (Fin.ext (by dsimp only; omega))

/-- The convolution of a block's row is that of the array's. -/
theorem conv_block (c : Dev nD) (t : Fin cfg0.N) (r : Fin 256) (k : Fin 3072) : conv m c t r k
    = Cert.ConvSpec.conv (fun n e => m ((c.tc : Thread nD τ).loc main_arg0) (ix2 n e)) (fun s e => m ((c.tc : Thread nD τ).loc main_arg1) (ix3 0 s e)) (place t r).val k := by
  show mixed _ _ = mixed _ _
  refine congr (congrArg mixed (funext fun s => ?_)) (funext fun s => weight_block m c t s k)
  refine Eq.trans (congrArg (fun n => ext m c t (ix2 n k)) (Fin.ext ?_)) ((ext_at m c t (r.val + s.val) (by omega) k).trans ?_)
  · dsimp only; omega
  · exact congrArg (fun n => padded _ n k) (Nat.add_assoc _ _ _).symm

end Cert.ConvIdeal.Step

namespace Cert.ConvRefIdeal.Read

open Cert.ConvRefIdeal Cert.ConvSpec

variable (P : (⟨S16384x4096, .f32⟩ : BufTy).Contents (Elt Ideal)) (W : (⟨S1x5x3072, .f32⟩ : BufTy).Contents (Elt Ideal))

/-- The padded rows. -/
theorem padded_rows (j : Fin 16388) (k : Fin 3072) : val_main_v1 (F := Ideal) P (ix2 j k) = padded (fun n e => P (ix2 n e)) j.val k := by
  unfold padded
  pointwise [val_main_v1, val_main_v0, val_main_call0_v0, val_main_c]
  rw [Cert.AttnProjIdeal.Step.sitofp_zero]
  split_ifs <;> first | rfl | (exfalso; omega)

/-- The weighted sum. -/
theorem summed (n : Fin 16384) (k : Fin 3072) : val_main_v37 (F := Ideal) P W (ix2 n k)
    = padded (fun n e => P (ix2 n e)) n.val k * W (ix3 0 0 k) + padded (fun n e => P (ix2 n e)) (1 + n.val) k * W (ix3 0 1 k)
      + padded (fun n e => P (ix2 n e)) (2 + n.val) k * W (ix3 0 2 k) + padded (fun n e => P (ix2 n e)) (3 + n.val) k * W (ix3 0 3 k)
      + padded (fun n e => P (ix2 n e)) (4 + n.val) k * W (ix3 0 4 k) := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst, padded_rows]

/-- The convolution. -/
theorem convolved (n : Fin 16384) (k : Fin 3072) : val_main_v38 (F := Ideal) P W (ix2 n k)
    = conv (fun n e => P (ix2 n e)) (fun s e => W (ix3 0 s e)) n.val k := by
  have e : mixed (fun s => padded (fun n e => P (ix2 n e)) (n + s.val) k) (fun s => W (ix3 0 s k)) = Cert.OutProjSpec.silu (val_main_v37 (F := Ideal) P W (ix2 n k)) := by
    rw [summed, Nat.add_comm 1, Nat.add_comm 2, Nat.add_comm 3, Nat.add_comm 4]
    rfl
  unfold conv
  rw [e, val_main_v38_apply, val_main_call1_v5_apply, val_main_call1_v4_apply, val_main_call1_cst_0_apply, val_main_call1_v3_apply,
    val_main_call1_v2_apply, val_main_call1_cst_apply, val_main_call1_v1_apply, val_main_call1_v0_apply]
  generalize val_main_v37 (F := Ideal) P W (ix2 n k) = a
  change a * Ideal.div (Ideal.ofBits .f32 0x3F800000#32) (Ideal.ofBits .f32 0x3F800000#32 + Ideal.exp (-a)) = _
  rw [Cert.FfnSpec.ofBits_one]
  rfl

/-- The queries. -/
theorem queries (n : Fin 16384) (d : Fin 1024) : val_main_v61 (F := Ideal) P W (ix2 n d)
    = unit (fun e => conv (fun n e => P (ix2 n e)) (fun s e => W (ix3 0 s e)) n.val ⟨d.val / 128 * 128 + e.val, by omega⟩) ⟨d.val % 128, by omega⟩ * scale := by
  simp only [← convolved]
  pointwise [val_main_v61, val_main_v50, val_main_v49, val_main_v48, val_main_v47, val_main_v46, val_main_v45, val_main_v44, val_main_v43, val_main_v42, val_main_v41, val_main_v40, val_main_v39, val_main_cst_0, val_main_cst_1, val_main_cst_2, unit, scale]
  simp only [Nat.div_add_mod']

/-- The keys. -/
theorem keys (n : Fin 16384) (d : Fin 1024) : val_main_v62 (F := Ideal) P W (ix2 n d)
    = unit (fun e => conv (fun n e => P (ix2 n e)) (fun s e => W (ix3 0 s e)) n.val ⟨1024 + (d.val / 128 * 128 + e.val), by omega⟩) ⟨d.val % 128, by omega⟩ := by
  simp only [← convolved]
  pointwise [val_main_v62, val_main_v60, val_main_v59, val_main_v58, val_main_v57, val_main_v56, val_main_v55, val_main_v54, val_main_v53, val_main_v52, val_main_v51, val_main_cst_3, val_main_cst_4, unit]
  simp only [Nat.div_add_mod']

/-- The values. -/
theorem values (n : Fin 16384) (d : Fin 1024) : val_main_v63 (F := Ideal) P W (ix2 n d)
    = conv (fun n e => P (ix2 n e)) (fun s e => W (ix3 0 s e)) n.val ⟨2048 + d.val, by omega⟩ := by
  rw [← convolved]
  pointwise [val_main_v63]

end Cert.ConvRefIdeal.Read

namespace Cert.ConvIdeal.Step

open Cert.ConvIdeal Cert.ConvIdeal.Gen Cert.ConvIdeal.Value Cert.ConvSpec

variable (m : (ℓ : Loc nD τ sig) → Buf (Elt Ideal) ℓ)

/-- The array of queries is the reference's function of the arguments. -/
theorem equation_queries (c : Dev nD) : (dats m 0 c).arrAt 5 cfg0.N
    = Cert.ConvRefIdeal.Read.val_main_v61 (F := Ideal) (m ((c.tc : Thread nD τ).loc main_arg0)) (m ((c.tc : Thread nD τ).loc main_arg1)) := by
  refine (dats m 0 c).arrAt_eq_of_covers 5 _ (by decide +kernel) fun t _ y => ?_
  blk_simp
  rw [after0_5]
  idx_vars y
  refine (query_at m c t y0 y1).trans ?_
  simp only [conv_block]
  refine (Cert.ConvRefIdeal.Read.queries _ _ (place t y0) y1).symm.trans (congrArg _ ?_)
  blk_ext [idx t, place]

/-- The array of keys is the reference's function of the arguments. -/
theorem equation_keys (c : Dev nD) : (dats m 0 c).arrAt 6 cfg0.N
    = Cert.ConvRefIdeal.Read.val_main_v62 (F := Ideal) (m ((c.tc : Thread nD τ).loc main_arg0)) (m ((c.tc : Thread nD τ).loc main_arg1)) := by
  refine (dats m 0 c).arrAt_eq_of_covers 6 _ (by decide +kernel) fun t _ y => ?_
  blk_simp
  rw [after0_6]
  idx_vars y
  refine (key_at m c t y0 y1).trans ?_
  simp only [conv_block]
  refine (Cert.ConvRefIdeal.Read.keys _ _ (place t y0) y1).symm.trans (congrArg _ ?_)
  blk_ext [idx t, place]

/-- The array of values is the reference's function of the arguments. -/
theorem equation_values (c : Dev nD) : (dats m 0 c).arrAt 7 cfg0.N
    = Cert.ConvRefIdeal.Read.val_main_v63 (F := Ideal) (m ((c.tc : Thread nD τ).loc main_arg0)) (m ((c.tc : Thread nD τ).loc main_arg1)) := by
  refine (dats m 0 c).arrAt_eq_of_covers 7 _ (by decide +kernel) fun t _ y => ?_
  blk_simp
  rw [after0_7]
  idx_vars y
  refine (value_at m c t y0 y1).trans ?_
  simp only [conv_block]
  refine (Cert.ConvRefIdeal.Read.values _ _ (place t y0) y1).symm.trans (congrArg _ ?_)
  blk_ext [idx t, place]

end Cert.ConvIdeal.Step

end
-- ==== Proof.ConvClaim.lean ====
/- The claims about the convolution of the delta-rule layer. -/
module

public import proofs.«01_k».proof.Defs
public import proofs.«01_k».proof.Proof.Gen.Conv.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvEquation
public import Idealize.ShloMosaic.Adequacy
public import Idealize.ShloMosaic.Init
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem

namespace Cert.Proof.Conv

/-- The kernel of the convolution of the delta-rule layer runs, leaves its arguments unchanged and every semaphore at zero. -/
theorem kernel : quiescent_Conv (hConv := Cert.Conv.Gen.facts) := fun m ρ _ => Cert.Conv.Gen.frame m ρ

/-- The same of its ideal form. -/
theorem ideal : quiescent_ConvIdeal (hConvIdeal := Cert.ConvIdeal.Gen.facts) := fun m ρ _ => Cert.ConvIdeal.Gen.frame m ρ

/-- The reference runs, leaves its arguments unchanged and every semaphore at zero. -/
theorem reference : quiescent_ConvRefIdeal (hConvRefIdeal := Cert.ConvRefIdeal.Gen.facts) := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

/-- The ideal form is the kernel's own. -/
theorem preserves : preserves_Conv_ConvIdeal := trivial
/-- The queries, keys and values are the reference's, for every input; the kernel's other two results are not claimed. -/
theorem algebraic : algebraic_ConvIdeal_ConvRefIdeal (hConvIdeal := Cert.ConvIdeal.Gen.facts) (hConvRefIdeal := Cert.ConvRefIdeal.Gen.facts) := by
  intro m ρ m' ρ' _ hagree
  refine ⟨_, _, _, (θ_run Cert.ConvIdeal.defs _ _).mono
    (fun _ h c => ⟨(h c).1, (h c).2.1, (h c).2.2.1, (h c).2.2.2.2.2⟩) (Cert.ConvIdeal.Value.run_blocks (F := Ideal) m ρ), ?_⟩
  refine (θ_run Cert.ConvRefIdeal.defs _ _).mono (fun _ h c => ?_) (Cert.ConvRefIdeal.Value.run (F := Ideal) m' ρ')
  obtain ⟨a0, a1, _⟩ := hagree c
  refine ⟨(h c).1.trans ?_, (h c).2.1.trans ?_, (h c).2.2.1.trans ?_, (h c).2.2.2⟩
  · refine (Cert.ConvRefIdeal.Read.val_main_v61_eq _ _).trans (Eq.trans ?_ (Cert.ConvIdeal.Step.equation_queries m c).symm)
    exact congr (congrArg _ a0) a1
  · refine (Cert.ConvRefIdeal.Read.val_main_v62_eq _ _).trans (Eq.trans ?_ (Cert.ConvIdeal.Step.equation_keys m c).symm)
    exact congr (congrArg _ a0) a1
  · refine (Cert.ConvRefIdeal.Read.val_main_v63_eq _ _).trans (Eq.trans ?_ (Cert.ConvIdeal.Step.equation_values m c).symm)
    exact congr (congrArg _ a0) a1

end Cert.Proof.Conv

end
-- ==== Proof.lean ====
module

public import proofs.«01_k».proof.Defs
public import proofs.«01_k».proof.Proof.AttnClaim
public import proofs.«01_k».proof.Proof.FfnFirstClaim
public import proofs.«01_k».proof.Proof.FfnLastClaim
public import proofs.«01_k».proof.Proof.GdnProjClaim
public import proofs.«01_k».proof.Proof.OutProjClaim
public import proofs.«01_k».proof.Proof.AttnProjClaim
public import proofs.«01_k».proof.Proof.ConvClaim

@[expose] public section

noncomputable section

namespace Cert.Proof

/-- Every claim: the runs of the kernels, their ideal forms and the references, then each call's value claims. -/
theorem claim : Cert.Claim :=
  ⟨Cert.Attn.Gen.facts, Cert.AttnIdeal.Gen.facts, Cert.AttnRefIdeal.Gen.facts, Cert.FfnFirst.Gen.facts, Cert.FfnFirstIdeal.Gen.facts, Cert.FfnFirstRefIdeal.Gen.facts, Cert.FfnLast.Gen.facts, Cert.FfnLastIdeal.Gen.facts, Cert.FfnLastRefIdeal.Gen.facts, Cert.GdnProj.Gen.facts, Cert.GdnProjIdeal.Gen.facts, Cert.GdnProjRefIdeal.Gen.facts, Cert.OutProj.Gen.facts, Cert.OutProjIdeal.Gen.facts, Cert.OutProjRefIdeal.Gen.facts, Cert.AttnProj.Gen.facts, Cert.AttnProjIdeal.Gen.facts, Cert.AttnProjRefIdeal.Gen.facts, Cert.Conv.Gen.facts, Cert.ConvIdeal.Gen.facts, Cert.ConvRefIdeal.Gen.facts,
    Attn.kernel, Attn.ideal, Attn.reference, FfnFirst.kernel, FfnFirst.ideal, FfnFirst.reference, FfnLast.kernel, FfnLast.ideal, FfnLast.reference, GdnProj.kernel, GdnProj.ideal, GdnProj.reference, OutProj.kernel, OutProj.ideal, OutProj.reference, AttnProj.kernel, AttnProj.ideal, AttnProj.reference, Conv.kernel, Conv.ideal, Conv.reference,
    Attn.preserves, Attn.algebraic, FfnFirst.preserves, FfnFirst.algebraic, FfnLast.preserves, FfnLast.algebraic, GdnProj.preserves, GdnProj.algebraic, OutProj.preserves, OutProj.algebraic, AttnProj.preserves, AttnProj.algebraic, Conv.preserves, Conv.algebraic⟩

end Cert.Proof

end
